-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x4096 : Shape := ⟨2, ![8192, 4096]⟩
abbrev S4096 : Shape := ⟨1, ![4096]⟩
abbrev S12288x4096 : Shape := ⟨2, ![12288, 4096]⟩
abbrev S_ : Shape := ⟨0, ![]⟩
abbrev S1x4096 : Shape := ⟨2, ![1, 4096]⟩
abbrev S1 : Shape := ⟨1, ![1]⟩
abbrev S1024x4096 : Shape := ⟨2, ![1024, 4096]⟩
abbrev S128x4096 : Shape := ⟨2, ![128, 4096]⟩
abbrev S128 : Shape := ⟨1, ![128]⟩
abbrev S128x1 : Shape := ⟨2, ![128, 1]⟩
abbrev S8192x12288 : Shape := ⟨2, ![8192, 12288]⟩
abbrev S1536x4096 : Shape := ⟨2, ![1536, 4096]⟩
abbrev S1024x1536 : Shape := ⟨2, ![1024, 1536]⟩

abbrev nBuf : Space → Nat
  | .hbm => 16
  | .vmem => 27
  | .smem => 1
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S12288x4096, .f32⟩
  | .hbm, ⟨4, _⟩ => ⟨S_, .f32⟩
  | .hbm, ⟨5, _⟩ => ⟨S_, .f32⟩
  | .hbm, ⟨6, _⟩ => ⟨S4096, .f32⟩
  | .hbm, ⟨7, _⟩ => ⟨S4096, .f32⟩
  | .hbm, ⟨8, _⟩ => ⟨S1x4096, .f32⟩
  | .hbm, ⟨9, _⟩ => ⟨S_, .f32⟩
  | .hbm, ⟨10, _⟩ => ⟨S1, .f32⟩
  | .hbm, ⟨11, _⟩ => ⟨S8192x4096, .f32⟩
  | .hbm, ⟨12, _⟩ => ⟨S1024x4096, .fp8e4m3⟩
  | .hbm, ⟨13, _⟩ => ⟨S12288x4096, .fp8e4m3⟩
  | .hbm, ⟨14, _⟩ => ⟨S8192x12288, .f32⟩
  | .hbm, ⟨15, _⟩ => ⟨S8192x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S1024x4096, .f32⟩
  | .local _ .vmem, ⟨6, _⟩ => ⟨S1024x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .fp8e4m3⟩
  | .local _ .vmem, ⟨10, _⟩ => ⟨S128x4096, .fp8e4m3⟩
  | .local _ .vmem, ⟨11, _⟩ => ⟨S1024x4096, .fp8e4m3⟩
  | .local _ .vmem, ⟨12, _⟩ => ⟨S1024x4096, .fp8e4m3⟩
  | .local _ .vmem, ⟨13, _⟩ => ⟨S1024x4096, .fp8e4m3⟩
  | .local _ .vmem, ⟨14, _⟩ => ⟨S128x4096, .f32⟩
  | .local _ .vmem, ⟨15, _⟩ => ⟨S128x4096, .f32⟩
  | .local _ .vmem, ⟨16, _⟩ => ⟨S128x4096, .f32⟩
  | .local _ .vmem, ⟨17, _⟩ => ⟨S128x4096, .f32⟩
  | .local _ .vmem, ⟨18, _⟩ => ⟨S1x4096, .f32⟩
  | .local _ .vmem, ⟨19, _⟩ => ⟨S1536x4096, .fp8e4m3⟩
  | .local _ .vmem, ⟨20, _⟩ => ⟨S1536x4096, .fp8e4m3⟩
  | .local _ .vmem, ⟨21, _⟩ => ⟨S1024x1536, .f32⟩
  | .local _ .vmem, ⟨22, _⟩ => ⟨S1024x1536, .f32⟩
  | .local _ .vmem, ⟨23, _⟩ => ⟨S128x4096, .f32⟩
  | .local _ .vmem, ⟨24, _⟩ => ⟨S128x4096, .f32⟩
  | .local _ .vmem, ⟨25, _⟩ => ⟨S1024x4096, .fp8e4m3⟩
  | .local _ .vmem, ⟨26, _⟩ => ⟨S1024x4096, .fp8e4m3⟩
  | .local _ .smem, ⟨0, _⟩ => ⟨S1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg7_1 : Ref sig .tc := ⟨.vmem, 24, rfl⟩
abbrev cc1_scratch0 : Ref sig .tc := ⟨.vmem, 25, rfl⟩
abbrev cc1_scratch1 : Ref sig .tc := ⟨.vmem, 26, rfl⟩
abbrev cc1_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem4_1 : DmaSem sig := 20
abbrev cc1_sem5_0 : DmaSem sig := 21
abbrev cc1_sem6_0 : DmaSem sig := 22
abbrev cc1_sem6_1 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨1, ![12], ![false]⟩

def k0_cond1 (i : grid0.Coords) : BitVec 1 :=
  let arg0 : BitVec 32 := BitVec.ofNat 32 (i 0).val
  let c8_i32 : BitVec 32 := 8#32
  let v3 : BitVec 1 := Scalar.cmpi .slt arg0 c8_i32
  let v4 : BitVec 32 := Scalar.extui v3
  let c0_i32 : BitVec 32 := 0#32
  let v5 : BitVec 1 := Scalar.cmpi .ne v4 c0_i32
  v5

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x4096 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 8], ![false, false]⟩

def k1_cond2 (i : grid1.Coords) : BitVec 1 :=
  let arg0 : BitVec 32 := BitVec.ofNat 32 (i 0).val
  let c2_i32 : BitVec 32 := 2#32
  let v7 : BitVec 32 := Scalar.remsi arg0 c2_i32
  let c0_i32_2 : BitVec 32 := 0#32
  let v8 : BitVec 1 := Scalar.cmpi .eq v7 c0_i32_2
  let v9 : BitVec 32 := Scalar.extui v8
  let c0_i32_3 : BitVec 32 := 0#32
  let v10 : BitVec 1 := Scalar.cmpi .ne v9 c0_i32_3
  v10

def k1_off1 (i : grid1.Coords) : Fin 2 → Nat :=
  let arg1 : BitVec 32 := BitVec.ofNat 32 (i 1).val
  let c7_i32 : BitVec 32 := 7#32
  let v5 : BitVec 32 := Scalar.minsi arg1 c7_i32
  let c128_i32 : BitVec 32 := 128#32
  let v6 : BitVec 32 := Scalar.muli v5 c128_i32
  let v38 : Index := Scalar.indexCast v6
  let c0_17 : Index := 0#32
  ![v38.toNat, 0]
def k1_cond3 (i : grid1.Coords) : BitVec 1 :=
  let arg0 : BitVec 32 := BitVec.ofNat 32 (i 0).val
  let c2_i32_4 : BitVec 32 := 2#32
  let v11 : BitVec 32 := Scalar.remsi arg0 c2_i32_4
  let c1_i32 : BitVec 32 := 1#32
  let v12 : BitVec 1 := Scalar.cmpi .eq v11 c1_i32
  let v13 : BitVec 32 := Scalar.extui v12
  let c0_i32_5 : BitVec 32 := 0#32
  let v14 : BitVec 1 := Scalar.cmpi .ne v13 c0_i32_5
  v14

def k1_off2 (i : grid1.Coords) : Fin 2 → Nat :=
  let arg1 : BitVec 32 := BitVec.ofNat 32 (i 1).val
  let c7_i32 : BitVec 32 := 7#32
  let v5 : BitVec 32 := Scalar.minsi arg1 c7_i32
  let c128_i32 : BitVec 32 := 128#32
  let v6 : BitVec 32 := Scalar.muli v5 c128_i32
  let v38 : Index := Scalar.indexCast v6
  let c0_17 : Index := 0#32
  ![v38.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c8_i32 : BitVec 32 := 8#32
  let v1 : BitVec 32 := Scalar.muli v0 c8_i32
  let c7_i32 : BitVec 32 := 7#32
  let v2 : BitVec 32 := Scalar.minsi arg1 c7_i32
  let v3 : BitVec 32 := Scalar.addi v1 v2
  let c63_i32 : BitVec 32 := 63#32
  let v4 : BitVec 32 := Scalar.minsi v3 c63_i32
  let c0_i32 : BitVec 32 := 0#32
  let c0_i32_0 : BitVec 32 := 0#32
  ![v4.toNat, c0_i32.toNat]

def cc1_transform_2 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c8_i32 : BitVec 32 := 8#32
  let v1 : BitVec 32 := Scalar.muli v0 c8_i32
  let c7_i32 : BitVec 32 := 7#32
  let v2 : BitVec 32 := Scalar.minsi arg1 c7_i32
  let v3 : BitVec 32 := Scalar.addi v1 v2
  let c63_i32 : BitVec 32 := 63#32
  let v4 : BitVec 32 := Scalar.minsi v3 c63_i32
  let c0_i32 : BitVec 32 := 0#32
  let c0_i32_0 : BitVec 32 := 0#32
  ![v4.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_8 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c8_i32 : BitVec 32 := 8#32
  let v1 : BitVec 32 := Scalar.muli v0 c8_i32
  let c7_i32 : BitVec 32 := 7#32
  let v2 : BitVec 32 := Scalar.minsi arg1 c7_i32
  let v3 : BitVec 32 := Scalar.addi v1 v2
  let c63_i32 : BitVec 32 := 63#32
  let v4 : BitVec 32 := Scalar.minsi v3 c63_i32
  let c0_i32 : BitVec 32 := 0#32
  let c0_i32_0 : BitVec 32 := 0#32
  ![v4.toNat, c0_i32.toNat]

abbrev stage1_0 : Fin 1 → Memref sig .tc .vmem S1024x4096 .fp8e4m3 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S128x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S128x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1536x4096 .fp8e4m3 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 1 → Memref sig .tc .smem S1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x1536 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S128x4096 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== ReferenceIdeal.lean ====
abbrev S8192x4096 : Shape := ⟨2, ![8192, 4096]⟩
abbrev S4096 : Shape := ⟨1, ![4096]⟩
abbrev S12288x4096 : Shape := ⟨2, ![12288, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S8192x12288 : Shape := ⟨2, ![8192, 12288]⟩

abbrev nBuf : Space → Nat
  | .hbm => 38
  | .vmem => 2
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S12288x4096, .f32⟩
  | .hbm, ⟨4, _⟩ => ⟨S_, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x4096, .f32⟩
  | .hbm, ⟨19, _⟩ => ⟨S8192x4096, .f32⟩
  | .hbm, ⟨20, _⟩ => ⟨S1x4096, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8192x4096, .f32⟩
  | .hbm, ⟨29, _⟩ => ⟨S8192x4096, .f32⟩
  | .hbm, ⟨30, _⟩ => ⟨S_, .f32⟩
  | .hbm, ⟨31, _⟩ => ⟨S8192x4096, .f32⟩
  | .hbm, ⟨32, _⟩ => ⟨S8192x4096, .f32⟩
  | .hbm, ⟨33, _⟩ => ⟨S8192x4096, .f32⟩
  | .hbm, ⟨34, _⟩ => ⟨S8192x12288, .f32⟩
  | .hbm, ⟨35, _⟩ => ⟨S_, .f32⟩
  | .hbm, ⟨36, _⟩ => ⟨S8192x12288, .f32⟩
  | .hbm, ⟨37, _⟩ => ⟨S8192x12288, .f32⟩
  | .local _ .vmem, ⟨0, _⟩ => ⟨S8192x4096, .f32⟩
  | .local _ .vmem, ⟨1, _⟩ => ⟨S8192x4096, .f32⟩
  | _, _ => ⟨S8192x4096, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8192x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.PrologueBody.lean ====
/-
  The first kernel's body at one grid point, as triples over its seven staging buffers.

  At every point it converts a weight block; at a point below 8 it also writes the sum of the two input chunks and the
  quantised chunk. At a later point it leaves those two buffers alone.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Value
public import Idealize.ShloMosaic.Lib.Tactic

@[expose] public section

noncomputable section

namespace Cert.Proof.Prologue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two offsets of a whole-buffer access are zero. -/
theorem off_zero : (![0, 0] : Fin 2 → ℕ) = fun _ => 0 := by decide

/-- Reading a buffer after one store of the whole of it gives the stored value. -/
theorem read_after_whole_store {e : EltTy} {S : Shape} {off : Fin S.rank → ℕ} (h : off = fun _ => 0)
    (inb : ∀ a, off a + S.size a ≤ S.size a) {sp : Space} (M : Memref sig .tc sp S e)
    (f : M.view.ty.Contents (Elt F)) {X Y : S.Idx → Elt F e} (hX : X = Y) :
    M.view.read (Elt F) (M.view.writes (Elt F) f [(⟨Rect.unit off S.size inb, X⟩ : View.Piece (Elt F) S e)]) = Y := by
  subst hX
  rw [View.read_writes_eq_canon _ _ _ (fun y => ⟨_, List.mem_singleton_self _, View.mem_set_unit_zero h inb y⟩)]
  exact View.canon_unit_zero h inb X

/-- Loading the whole of a buffer reads its contents. -/
theorem load_whole {e : EltTy} {S : Shape} {off : Fin S.rank → ℕ} (h : off = fun _ => 0)
    (inb : ∀ a, off a + S.size a ≤ S.size a) {sp : Space} (M : Memref sig .tc sp S e) (f : M.view.ty.Contents (Elt F)) :
    M.view.readAt (Elt F) (Rect.unit off S.size inb).toLoadRect f = M.view.read (Elt F) f := by
  rw [View.readAt_eq_ld]
  exact View.ld_unit_zero h inb _

/-- At a point below 8 the body leaves the converted weight block, the sum and the quantised chunk in its three result
    buffers, and its four input buffers as they were. -/
theorem body_early (c : Dev nD) (i : grid0.Coords) (hi : k0_cond1 i = 1#1)
    (a1 : Memref sig .tc .vmem S128x4096 .f32) (h1 : a1.IsWhole) (a2 : Memref sig .tc .vmem S128x4096 .f32) (h2 : a2.IsWhole)
    (a3 : Memref sig .tc .vmem S1x4096 .f32) (h3 : a3.IsWhole) (a4 : Memref sig .tc .vmem S1024x4096 .f32) (h4 : a4.IsWhole)
    (a5 : Memref sig .tc .vmem S128x4096 .f32) (h5 : a5.IsWhole) (a6 : Memref sig .tc .vmem S128x4096 .fp8e4m3) (h6 : a6.IsWhole)
    (a7 : Memref sig .tc .vmem S1024x4096 .fp8e4m3) (h7 : a7.IsWhole)
    (x r : Vec F S128x4096 .f32) (nw : Vec F S1x4096 .f32) (w : Vec F S1024x4096 .f32) (E : Set ℕ) (K : PUnit → sProp 𝕄) :
    iprop(owns (c : Thread nD τ) a1 fullShare x ∗ owns (c : Thread nD τ) a2 fullShare r
        ∗ owns (c : Thread nD τ) a3 fullShare nw ∗ owns (c : Thread nD τ) a4 fullShare w
        ∗ (∃ d, owns (c : Thread nD τ) a5 fullShare d) ∗ (∃ d, owns (c : Thread nD τ) a6 fullShare d)
        ∗ (∃ d, owns (c : Thread nD τ) a7 fullShare d)
        ∗ (iprop(owns (c : Thread nD τ) a1 fullShare x ∗ owns (c : Thread nD τ) a2 fullShare r
            ∗ owns (c : Thread nD τ) a3 fullShare nw ∗ owns (c : Thread nD τ) a4 fullShare w
            ∗ owns (c : Thread nD τ) a5 fullShare (k0_pay2 x r) ∗ owns (c : Thread nD τ) a6 fullShare (k0_pay3 x r nw)
            ∗ owns (c : Thread nD τ) a7 fullShare (k0_pay1 w)) -∗ K ⟨⟩))
      ⊢ wp frame (wpE (defs₀ (F := F)) Variants.none c none) E
          (cc0__prologue_kernel i a1 h1 a2 h2 a3 h3 a4 h4 a5 h5 a6 h6 a7 h7) K := by
  simp only [cc0__prologue_kernel_eq_skeleton]; unfold cc0__prologue_kernel_skel
  simp only [dif_pos hi]
  unfold owns
  iintro ⟨⟨%f1, %e1, H1⟩, ⟨%f2, %e2, H2⟩, ⟨%f3, %e3, H3⟩, ⟨%f4, %e4, H4⟩, ⟨%d5, %f5, -, H5⟩, ⟨%d6, %f6, -, H6⟩, ⟨%d7, %f7, -, H7⟩, Hk⟩
  subst e1 e2 e3 e4
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr; swap; · iexact H5
    ipureintro
    exact read_after_whole_store off_zero _ _ _ (congrArg₂ k0_pay2 (load_whole off_zero _ a1 f1) (load_whole off_zero _ a2 f2))
  isplitl [H6]
  · iexists _; isplitr; swap; · iexact H6
    ipureintro
    refine read_after_whole_store off_zero _ _ _ ?_
    rw [load_whole off_zero _ a1 f1, load_whole off_zero _ a2 f2, load_whole off_zero _ a3 f3]
  · iexists _; isplitr; swap; · iexact H7
    ipureintro
    exact read_after_whole_store off_zero _ _ _ (congrArg k0_pay1 (load_whole off_zero _ a4 f4))

/-- At a point from 8 on the body leaves the converted weight block, and every other buffer as it was. -/
theorem body_late (c : Dev nD) (i : grid0.Coords) (hi : ¬ k0_cond1 i = 1#1)
    (a1 : Memref sig .tc .vmem S128x4096 .f32) (h1 : a1.IsWhole) (a2 : Memref sig .tc .vmem S128x4096 .f32) (h2 : a2.IsWhole)
    (a3 : Memref sig .tc .vmem S1x4096 .f32) (h3 : a3.IsWhole) (a4 : Memref sig .tc .vmem S1024x4096 .f32) (h4 : a4.IsWhole)
    (a5 : Memref sig .tc .vmem S128x4096 .f32) (h5 : a5.IsWhole) (a6 : Memref sig .tc .vmem S128x4096 .fp8e4m3) (h6 : a6.IsWhole)
    (a7 : Memref sig .tc .vmem S1024x4096 .fp8e4m3) (h7 : a7.IsWhole)
    (w : Vec F S1024x4096 .f32) (E : Set ℕ) (K : PUnit → sProp 𝕄) :
    iprop(owns (c : Thread nD τ) a4 fullShare w ∗ (∃ d, owns (c : Thread nD τ) a7 fullShare d)
        ∗ (iprop(owns (c : Thread nD τ) a4 fullShare w ∗ owns (c : Thread nD τ) a7 fullShare (k0_pay1 w)) -∗ K ⟨⟩))
      ⊢ wp frame (wpE (defs₀ (F := F)) Variants.none c none) E
          (cc0__prologue_kernel i a1 h1 a2 h2 a3 h3 a4 h4 a5 h5 a6 h6 a7 h7) K := by
  simp only [cc0__prologue_kernel_eq_skeleton]; unfold cc0__prologue_kernel_skel
  simp only [dif_neg hi]
  unfold owns
  iintro ⟨⟨%f4, %e4, H4⟩, ⟨%d7, %f7, -, H7⟩, Hk⟩
  subst e4
  sl_exec
  sl_step
  iapply Hk
  isplitl [H4]; · iexists f4; isplitr; · ipureintro; rfl
                  iexact H4
  iexists _; isplitr; swap; · iexact H7
  ipureintro
  exact read_after_whole_store off_zero _ _ _ (congrArg k0_pay1 (load_whole off_zero _ a4 f4))

end Cert.Proof.Prologue

end
-- ==== Proof.RegionRecord.lean ====
/-
  A kernel launch as one step of the program: from the buffers at one valuation to the buffers at the next.

  Stated once for both launches: the proof data may be any whose invariant starts and ends as "the scoped buffers the
  launch does not stage, at something", that owes nothing, and whose arrays start at the entry valuation.
-/
module

public import proofs.«01_k».proof.Proof.Gen.KernelIdeal.Regions
public import Idealize.ShloMosaic.Lib.Pipeline.FrameBody
public import Idealize.ShloMosaic.Lib.Pipeline.RegionsLoop
public import Idealize.ShloMosaic.Lib.Tactic

@[expose] public section

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- No core waits for another: no level is assigned. -/
abbrev noLevels : GSem nD τ sig → Finset Unit := fun _ => ∅
abbrev zeroLevel : GSem nD τ sig → Unit → ℕ := fun _ _ => 0

/-- The proof data of the two launches, as one family. -/
abbrev both (D0 : (c : Dev nD) → Dat τ (Elt F) Unit ℕ (UR sig nD τ) ℕ cfg0 c)
    (D1 : (c : Dev nD) → Dat τ (Elt F) Unit ℕ (UR sig nD τ) ℕ cfg1 c) :
    (p : Fin 2) → (c : Dev nD) → Dat τ (Elt F) Unit ℕ (UR sig nD τ) ℕ (cfgs p) c
  | ⟨0, _⟩ => D0
  | ⟨1, _⟩ => D1

/-- What rides beside the buffers: the core owes nothing. -/
abbrev idleCore (c : Dev nD) : sProp 𝕄 := iprop(∃ W, owes (c : Thread nD τ) (0 : CellTallies nD τ sig Unit) W)

/-- The scoped buffers launch `p` does not stage, each at something. -/
abbrev others (p : Fin 2) (c : Dev nD) : sProp 𝕄 :=
  Pipeline.scopedRest (Ix := Unit) (Name := ℕ) (U := UR sig nD τ) (Lvl := ℕ) (Val := Elt F) (cfgs p).spec c

/-- What a body must leave in window `w`'s buffer follows from its holding `after`, if the body is never idle for the
    window or `after` is what it found. -/
theorem leaves_of_after {Λ₀ : Labels} {cfg : Cfg sig Λ₀} {c : Dev nD} (D : Dat τ (Elt F) Unit ℕ (UR sig nD τ) ℕ cfg c)
    (w : Fin cfg.W) (t : Fin cfg.N)
    (h : cfg.idle w (cfg.grid.coords t) = true → (cfg.win w).flush t = false → ∃ d, D.before w t d = D.after w t) :
    owns (c : Thread nD τ) ((cfg.win w).stage (cfg.slots t w)) fullShare (D.after w t)
      ⊢ ((match cfg.idle w (cfg.grid.coords t) with
          | true =>
            match (cfg.win w).flush t with
            | false => iprop(∃ d, owns (c : Thread nD τ) ((cfg.win w).stage (cfg.slots t w)) fullShare (D.before w t d))
            | true => owns (c : Thread nD τ) ((cfg.win w).stage (cfg.slots t w)) fullShare (D.after w t)
          | false => owns (c : Thread nD τ) ((cfg.win w).stage (cfg.slots t w)) fullShare (D.after w t)) : sProp 𝕄) := by
  revert h
  cases cfg.idle w (cfg.grid.coords t)
  · exact fun _ => .rfl
  cases (cfg.win w).flush t
  · intro h
    obtain ⟨d, hd⟩ := h rfl rfl
    rw [← hd]
    iintro H; iexists d; iexact H
  · exact fun _ => .rfl

-- the launch lemmas are stated over a pinned configuration; unification must be free to unfold it
set_option backward.isDefEq.respectTransparency.types false in
/-- Launch `p` from the unscoped buffers at `V` to the unscoped buffers at `V'`, given that `V'` is the arrays as the
    launch's write-backs leave them and `V` elsewhere. -/
def region (p : Fin 2) (kit : Pipeline.LaunchFacts (nD := nD) (τ := τ) cfgs p)
    (D : (p : Fin 2) → (c : Dev nD) → Dat τ (Elt F) Unit ℕ (UR sig nD τ) ℕ (cfgs p) c)
    (hbody : ∀ c, BodyObligation (D p c) (defs₀ (F := F)) Variants.none () Set.univ)
    (hshare : ∀ c w, (D p c).share w = fullShare) (howed : ∀ c t, (D p c).owed t = 0) (hrec : ∀ c, (D p c).recorded 0 = Set.univ)
    (V V' : Dev nD → Valuation τ sig (Elt F))
    (hA : ∀ c w, (D p c).A w = V c (Proc.devRef .tc (Pipeline.arrRef (cfgs p).spec w)))
    (hΦ0 : ∀ c, others (F := F) p c ⊢ (D p c).Φ 0) (hΦN : ∀ c, (D p c).Φ (Fin.last (cfgs p).N) ⊢ others (F := F) p c)
    (hin : ∀ c w, (D p c).arrAt w (cfgs p).N = V' c (Proc.devRef .tc (Pipeline.arrRef (cfgs p).spec w)))
    (hoff : ∀ c (b : Ref sig .tc), b ∉ Finset.univ.image (Pipeline.arrRef (cfgs p).spec) →
      V' c (Proc.devRef .tc b) = V c (Proc.devRef .tc b)) :
    Pipeline.RegionSeg (pcfgs (F := F)) adm D () defs₀ Variants.none noLevels zeroLevel p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ noLevels zeroLevel p howed
  pre c := iprop(StableHlo.held (c : Thread nD τ) (Pipeline.ucRefs τ sig) (V c) ∗ idleCore (F := F) c)
  post c := iprop(StableHlo.held (c : Thread nD τ) (Pipeline.ucRefs τ sig) (V' c) ∗ idleCore (F := F) c)
  X _ := BI.emp
  Y _ := BI.emp
  Z c := Pipeline.unscopedRest (Ix := Unit) (Name := ℕ) (U := UR sig nD τ) (Lvl := ℕ) (cfgs p).spec c (fun b => V c (Proc.devRef .tc b))
  hentry c := by
    rw [Pipeline.ownSems0_none,
      show StableHlo.held (c.tc : Thread nD τ) (Pipeline.ucRefs τ sig) (V c) = unscopedBufs c (fun b => V c (Proc.devRef .tc b))
        from (Pipeline.unscopedBufs_held (Ix := Unit) (Name := ℕ) (U := UR sig nD τ) (Lvl := ℕ) c (V c)).symm]
    have hsplit := Pipeline.arrays_of_unscopedBufs (p := p) (pcfgs (F := F)) adm D kit.win kit.arr_whole c (hshare c)
      (fun b => V c (Proc.devRef .tc b)) (fun w => hA c w)
    iintro ⟨⟨Hub, HO⟩, -, -⟩
    ihave H := hsplit $$ Hub
    icases H with ⟨Ha, Hrest⟩
    imodintro
    isplitl [Ha]; · iexact Ha
    isplitr
    · unfold Pipeline.prefHeld
      iapply (show (BI.emp : sProp 𝕄) ⊢ bigSep (Finset.univ : Finset (Fin 0)) _ from by
        rw [show (Finset.univ : Finset (Fin 0)) = ∅ from rfl, BI.bigSep_empty])
      iempintro
    isplitl [HO]
    · unfold Pipeline.Dat.owesAt Pipeline.owesWithin
      rw [howed c 0]
      icases HO with ⟨%W, HO⟩
      iexists W; isplitr; · ipureintro; exact fun _ _ => Or.inl (by rw [hrec c]; trivial)
      iexact HO
    isplitr; · iempintro
    iexact Hrest
  hin c := (show _ ⊢ others (F := F) p c from by iintro ⟨-, -, Hr⟩; iexact Hr).trans (hΦ0 c)
  hout c := (hΦN c).trans (by
    rw [Pipeline.ownSems0_none]
    iintro Hr
    isplitr; · iempintro
    isplitr; · iempintro
    iexact Hr)
  hexit c := by
    have hjoin := Pipeline.unscopedBufs_of_arrays (p := p) (pcfgs (F := F)) adm (Ix := Unit) (Name := ℕ) (U := UR sig nD τ) (Lvl := ℕ)
      kit.win kit.arr_whole c D (hshare c)
      (fun b => V c (Proc.devRef .tc b)) (fun b => V' c (Proc.devRef .tc b)) ((D p c).arrAt · (cfgs p).N)
      (fun w => hin c w) (fun b hb => hoff c b hb)
    rw [show StableHlo.held (c.tc : Thread nD τ) (Pipeline.ucRefs τ sig) (V' c) = unscopedBufs c (fun b => V' c (Proc.devRef .tc b))
        from (Pipeline.unscopedBufs_held (Ix := Unit) (Name := ℕ) (U := UR sig nD τ) (Lvl := ℕ) c (V' c)).symm]
    iintro ⟨Ha, HO, -, Hrest⟩
    imodintro
    isplitl [Ha Hrest]
    · iapply hjoin; isplitl [Ha] <;> iassumption
    unfold Pipeline.Dat.owesAt Pipeline.owesWithin
    rw [howed c (Fin.last _)]
    icases HO with ⟨%W, -, HO⟩; iexists W; iexact HO

end Cert.Proof

end
-- ==== Proof.PrologueRegion.lean ====
/-
  The first kernel's launch: what its buffers hold at every grid point, and its body at every grid point.

  The launch's 12 points write the sum and the quantised chunk at the first eight; at the last four the two buffers keep
  the eighth point's contents, and the last point writes them back once more.
-/
module

public import proofs.«01_k».proof.Proof.PrologueBody
public import proofs.«01_k».proof.Proof.RegionRecord
public import Idealize.ShloMosaic.Lib.Pipeline.TableIdle

@[expose] public section

noncomputable section

namespace Cert.Proof.Prologue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-- Window `w`'s block at point `t`, of its array at the entry valuation. -/
def iblk (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The launch's proof data: the arrays at the entry valuation; the four input buffers at their blocks, the three result
    buffers at the body's results. -/
def dat (c : Dev nD) : Dat τ (Elt F) Unit ℕ (UR sig nD τ) ℕ cfg0 c where
  A w := V c (Proc.devRef .tc (Pipeline.arrRef spec0 w))
  after w t := match w with
    | ⟨0, _⟩ => iblk V c 0 t
    | ⟨1, _⟩ => iblk V c 1 t
    | ⟨2, _⟩ => iblk V c 2 t
    | ⟨3, _⟩ => iblk V c 3 t
    | ⟨4, _⟩ => k0_pay2 (iblk V c 0 t) (iblk V c 1 t)
    | ⟨5, _⟩ => k0_pay3 (iblk V c 0 t) (iblk V c 1 t) (iblk V c 2 t)
    | ⟨6, _⟩ => k0_pay1 (iblk V c 3 t)
  Φ _ := others (F := F) 0 c
  q _ := fullShare
  owed _ := 0

/-- The arrays start at the entry valuation. -/
theorem A_eq (c : Dev nD) (w : Fin cfg0.W) : (dat V c).A w = V c (Proc.devRef .tc (Pipeline.arrRef spec0 w)) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = k0_pay2 (iblk V c 0 t) (iblk V c 1 t) := by
  dsimp only [dat]
theorem after_5 (c : Dev nD) (t : Fin cfg0.N) :
    (dat V c).after 5 t = k0_pay3 (iblk V c 0 t) (iblk V c 1 t) (iblk V c 2 t) := by dsimp only [dat]
theorem after_6 (c : Dev nD) (t : Fin cfg0.N) : (dat V c).after 6 t = k0_pay1 (iblk V c 3 t) := by dsimp only [dat]

/-- Each input buffer holds its block at every point. -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]) t d).trans
    (by unfold Dat.fetched Dat.blockOf iblk; rw [A_eq]; rfl)
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]) t d).trans
    (by unfold Dat.fetched Dat.blockOf iblk; rw [A_eq]; rfl)
theorem before_2 (c : Dev nD) (t : Fin cfg0.N) (d) : (dat V c).before 2 t d = iblk V c 2 t :=
  ((dat V c).before_in_eq_fetched 2 rfl (fun _ => rfl) (fun _ _ _ => rfl)
    (fun t => by rw [after_2]; unfold Dat.blockOf iblk; rw [A_eq]) t d).trans
    (by unfold Dat.fetched Dat.blockOf iblk; rw [A_eq]; rfl)
theorem before_3 (c : Dev nD) (t : Fin cfg0.N) (d) : (dat V c).before 3 t d = iblk V c 3 t :=
  ((dat V c).before_in_eq_fetched 3 rfl (fun _ => rfl) (fun _ _ _ => rfl)
    (fun t => by rw [after_3]; unfold Dat.blockOf iblk; rw [A_eq]) t d).trans
    (by unfold Dat.fetched Dat.blockOf iblk; rw [A_eq]; rfl)

/-! ## The last four points -/

/-- The body writes the sum and the quantised chunk exactly at the points below 8. -/
theorem cond_iff : ∀ t : Fin grid0.N, k0_cond1 (grid0.coords t) = 1#1 ↔ t.val < 8 := by decide +kernel

/-- The chunk's block index does not move from the eighth point on. -/
theorem index_late : ∀ t : Fin grid0.N, 8 ≤ t.val →
    cc0_transform_0 (grid0.coords t) = cc0_transform_0 (grid0.coords ⟨t.val - 1, Nat.lt_of_le_of_lt (Nat.sub_le _ _) t.isLt⟩)
    ∧ cc0_transform_1 (grid0.coords t) = cc0_transform_1 (grid0.coords ⟨t.val - 1, Nat.lt_of_le_of_lt (Nat.sub_le _ _) t.isLt⟩) := by
  decide +kernel

/-- Nor does the block: at a point from 8 on each of the three chunk inputs is the point before's. -/
theorem iblk_late (c : Dev nD) (t : Fin cfg0.N) (ht : 8 ≤ t.val) :
    iblk V c 0 t = iblk V c 0 ⟨t.val - 1, Nat.lt_of_le_of_lt (Nat.sub_le _ _) t.isLt⟩
    ∧ iblk V c 1 t = iblk V c 1 ⟨t.val - 1, Nat.lt_of_le_of_lt (Nat.sub_le _ _) t.isLt⟩
    ∧ iblk V c 2 t = iblk V c 2 ⟨t.val - 1, Nat.lt_of_le_of_lt (Nat.sub_le _ _) t.isLt⟩ := by
  refine ⟨?_, ?_, ?_⟩
  · have h := (dat V c).fetched_congr 0 (t := t) (t' := ⟨t.val - 1, Nat.lt_of_le_of_lt (Nat.sub_le _ _) t.isLt⟩)
      (index_late t ht).1 rfl (fun _ => Classical.arbitrary _)
    unfold Dat.fetched Dat.blockOf at h
    rw [A_eq] at h
    exact h
  · have h := (dat V c).fetched_congr 1 (t := t) (t' := ⟨t.val - 1, Nat.lt_of_le_of_lt (Nat.sub_le _ _) t.isLt⟩)
      (index_late t ht).2 rfl (fun _ => Classical.arbitrary _)
    unfold Dat.fetched Dat.blockOf at h
    rw [A_eq] at h
    exact h
  · have h := (dat V c).fetched_congr 2 (t := t) (t' := ⟨t.val - 1, Nat.lt_of_le_of_lt (Nat.sub_le _ _) t.isLt⟩)
      rfl rfl (fun _ => Classical.arbitrary _)
    unfold Dat.fetched Dat.blockOf at h
    rw [A_eq] at h
    exact h

/-- The points at which a result buffer of the first two holds nothing the body stored. -/
abbrev freshAt (n : ℕ) : Bool := decide (n < 8 ∨ n = 12)

theorem fresh_4 : ∀ t : Fin grid0.N, freshAt (t.val + 1) = (win0_4.flush t || (idle0 4 (grid0.coords t) && freshAt t.val)) := by
  decide +kernel
theorem fresh_5 : ∀ t : Fin grid0.N, freshAt (t.val + 1) = (win0_5.flush t || (idle0 5 (grid0.coords t) && freshAt t.val)) := by
  decide +kernel

/-- At a point from 8 on the sum's buffer is found holding what it is to be left holding. -/
theorem before_late_4 (c : Dev nD) (t : Fin cfg0.N) (ht : 8 ≤ t.val) (d) : (dat V c).before 4 t d = (dat V c).after 4 t := by
  have key : ∀ s : Fin cfg0.N, 8 ≤ s.val → (dat V c).after 4 s = (dat V c).after 4 ⟨s.val - 1, Nat.lt_of_le_of_lt (Nat.sub_le _ _) s.isLt⟩ := by
    intro s hs
    obtain ⟨h0, h1, -⟩ := iblk_late V c s hs
    rw [after_4, after_4, h0, h1]
  have hfr : ∀ s : Fin cfg0.N, cfg0.fresh 4 s.val = freshAt s.val := fun s =>
    Pipeline.Cfg.fresh_tab cfg0 4 freshAt rfl fresh_4 s.val (Nat.le_of_lt s.isLt)
  rw [(dat V c).before_out_traj 4 rfl (fun _ _ => rfl) (fun s _ _ hf => key s (by
    rw [hfr s] at hf
    have := s.isLt
    by_contra hlt
    exact absurd hf (by rw [show freshAt s.val = true from decide_eq_true (Or.inl (by omega))]; decide))) t.val t rfl d,
    hfr t, show freshAt t.val = false from decide_eq_false (by have := t.isLt; have h12 : cfg0.N = 12 := N_0; omega),
    if_neg Bool.false_ne_true]
  exact (key t ht).symm

/-- And so is the quantised chunk's. -/
theorem before_late_5 (c : Dev nD) (t : Fin cfg0.N) (ht : 8 ≤ t.val) (d) : (dat V c).before 5 t d = (dat V c).after 5 t := by
  have key : ∀ s : Fin cfg0.N, 8 ≤ s.val → (dat V c).after 5 s = (dat V c).after 5 ⟨s.val - 1, Nat.lt_of_le_of_lt (Nat.sub_le _ _) s.isLt⟩ := by
    intro s hs
    obtain ⟨h0, h1, h2⟩ := iblk_late V c s hs
    rw [after_5, after_5, h0, h1, h2]
  have hfr : ∀ s : Fin cfg0.N, cfg0.fresh 5 s.val = freshAt s.val := fun s =>
    Pipeline.Cfg.fresh_tab cfg0 5 freshAt rfl fresh_5 s.val (Nat.le_of_lt s.isLt)
  rw [(dat V c).before_out_traj 5 rfl (fun _ _ => rfl) (fun s _ _ hf => key s (by
    rw [hfr s] at hf
    have := s.isLt
    by_contra hlt
    exact absurd hf (by rw [show freshAt s.val = true from decide_eq_true (Or.inl (by omega))]; decide))) t.val t rfl d,
    hfr t, show freshAt t.val = false from decide_eq_false (by have := t.isLt; have h12 : cfg0.N = 12 := N_0; omega),
    if_neg Bool.false_ne_true]
  exact (key t ht).symm

/-! ## The body at every point -/

/-- The body at any point: from every buffer as found to every buffer at `after`. -/
theorem sound_body (c : Dev nD) (t : Fin cfg0.N) :
    iprop((dat V c).Φ t.castSucc ∗ (dat V c).owesAt () t.castSucc
        ∗ (∃ d, owns (c : Thread nD τ) (st0_0 t) fullShare ((dat V c).before 0 t d))
        ∗ (∃ d, owns (c : Thread nD τ) (st0_1 t) fullShare ((dat V c).before 1 t d))
        ∗ (∃ d, owns (c : Thread nD τ) (st0_2 t) fullShare ((dat V c).before 2 t d))
        ∗ (∃ d, owns (c : Thread nD τ) (st0_3 t) fullShare ((dat V c).before 3 t d))
        ∗ (∃ d, owns (c : Thread nD τ) (st0_4 t) fullShare ((dat V c).before 4 t d))
        ∗ (∃ d, owns (c : Thread nD τ) (st0_5 t) fullShare ((dat V c).before 5 t d))
        ∗ (∃ d, owns (c : Thread nD τ) (st0_6 t) fullShare ((dat V c).before 6 t d)))
      ⊢ wp frame (wpE (defs₀ (F := F)) Variants.none c none) Set.univ (bodyAt0 t) (fun _ =>
        iprop((dat V c).Φ t.succ ∗ (dat V c).owesAt () t.succ
          ∗ owns (c : Thread nD τ) (st0_0 t) fullShare ((dat V c).after 0 t)
          ∗ owns (c : Thread nD τ) (st0_1 t) fullShare ((dat V c).after 1 t)
          ∗ owns (c : Thread nD τ) (st0_2 t) fullShare ((dat V c).after 2 t)
          ∗ owns (c : Thread nD τ) (st0_3 t) fullShare ((dat V c).after 3 t)
          ∗ owns (c : Thread nD τ) (st0_4 t) fullShare ((dat V c).after 4 t)
          ∗ owns (c : Thread nD τ) (st0_5 t) fullShare ((dat V c).after 5 t)
          ∗ owns (c : Thread nD τ) (st0_6 t) fullShare ((dat V c).after 6 t))) := by
  unfold bodyAt0
  simp only [before_0, before_1, before_2, before_3]
  rw [show (dat V c).Φ t.succ = (dat V c).Φ t.castSucc from rfl,
    show (dat V c).owesAt () t.succ = (dat V c).owesAt () t.castSucc from rfl, after_0, after_1, after_2, after_3]
  by_cases hi : k0_cond1 (grid0.coords t) = 1#1
  · rw [after_4, after_5, after_6]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (body_early c (grid0.coords t) hi _ _ _ _ _ _ _ _ _ _ _ _ _ _ (iblk V c 0 t) (iblk V c 1 t) (iblk V c 2 t) (iblk V c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have ht : 8 ≤ t.val := Nat.le_of_not_lt fun h => hi ((cond_iff t).mpr h)
    simp only [before_late_4 V c t ht, before_late_5 V c t ht]
    rw [after_6]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (body_late c (grid0.coords t) hi _ _ _ _ _ _ _ _ _ _ _ _ _ _ (iblk V c 3 t) Set.univ _)
    isplitl [H3]; · iexact H3
    isplitl [H6]; · iexists _; iexact H6
    iintro ⟨H3, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The pipeline's call at a point is the body on the point's buffers. -/
theorem row (t : Fin cfg0.N) : defs₀ (F := F) .tc cfg0.body (cfg0.bodyArgs t (cfg0.slots t)) = bodyAt0 t := by
  unfold defs₀; rw [Defs.onTc_tc]

/-- Every buffer at `after` is what the pipeline asks of the body, idle or not. -/
theorem leaves (c : Dev nD) (t : Fin cfg0.N) (w : Fin cfg0.W) (hi : cfg0.idle w (cfg0.grid.coords t) = true) :
    ∃ d, (dat V c).before w t d = (dat V c).after w t := by
  have late : k0_cond1 (grid0.coords t) ≠ 1#1 → 8 ≤ t.val := fun h => Nat.le_of_not_lt fun h' => h ((cond_iff t).mpr h')
  fin_cases w
  · exact absurd hi Bool.false_ne_true
  · exact absurd hi Bool.false_ne_true
  · exact absurd hi Bool.false_ne_true
  · exact absurd hi Bool.false_ne_true
  · exact ⟨fun _ => Classical.arbitrary _, before_late_4 V c t (late fun h => by simp [idle0, h] at hi) _⟩
  · exact ⟨fun _ => Classical.arbitrary _, before_late_5 V c t (late fun h => by simp [idle0, h] at hi) _⟩
  · exact absurd hi Bool.false_ne_true

/-- The body does what the pipeline asks, at every point. -/
theorem body_obligation (c : Dev nD) : BodyObligation (dat V c) (defs₀ (F := F)) Variants.none () Set.univ := fun t => by
  rw [bigSep_W0, row]
  refine triple_restated (sound_body V c t) rfl .rfl fun _ => sep_mono .rfl (sep_mono .rfl ?_)
  refine (show _ ⊢ bigSep Finset.univ fun w : Fin cfg0.W =>
    owns (c : Thread nD τ) ((cfg0.win w).stage (cfg0.slots t w)) fullShare ((dat V c).after w t) from ?_).trans
    (bigSep_mono fun w _ => leaves_of_after (dat V c) w t fun hi _ => leaves V c t w hi)
  rw [bigSep_W0]

end Cert.Proof.Prologue

end
-- ==== Proof.FusedBody.lean ====
/-
  The second kernel's body at one grid point, as triples over its buffers.

  A point (i, j) writes the sum of two input chunks, puts the quantised chunk into 128 rows of one scratch buffer (the
  next row block's), and multiplies the other scratch buffer (this row block's) by a weight block. The two scratch
  buffers swap roles from one i to the next; the very first point fills this row block's from an operand.
-/
module

public import proofs.«01_k».proof.Proof.PrologueBody
public import Idealize.ShloMosaic.Lib.WritesUnit

@[expose] public section

noncomputable section

namespace Cert.Proof.Fused

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Prologue (off_zero read_after_whole_store load_whole)

variable {F : FTy → Type} [FloatOps F]

local notation "𝕄" => MT nD τ sig Unit (Elt F) ℕ (UR sig nD τ) ℕ

/-- The index of a one-element buffer's element. -/
def theOne : S1.Idx := Shape.Idx.first (by decide)

/-- There is no other. -/
theorem the_one (y : S1.Idx) : y = theOne := by
  funext a
  refine Fin.ext ?_
  have h : ∀ a : Fin 1, S1.size a = 1 := by decide
  have h1 := (y a).isLt
  have h2 := (theOne a).isLt
  have h3 := h a
  omega

/-- The offset of a one-element access is zero. -/
theorem off_zero1 : (![0] : Fin 1 → ℕ) = fun _ => 0 := by decide

/-- `B'` is `B` with the 128 rows from row `o` on replaced by `P`. -/
def PutRows {e : EltTy} (o : ℕ) (P : Vec F S128x4096 e) (B B' : Vec F S1024x4096 e) : Prop :=
  (∀ (y : S1024x4096.Idx) (x : S128x4096.Idx), (y (0 : Fin 2)).val = o + (x (0 : Fin 2)).val →
      (y (1 : Fin 2)).val = (x (1 : Fin 2)).val → B' y = P x)
  ∧ ∀ y : S1024x4096.Idx, (y (0 : Fin 2)).val < o ∨ o + 128 ≤ (y (0 : Fin 2)).val → B' y = B y

/-- Storing 128 whole rows of a buffer replaces those rows. -/
theorem putRows_store {e : EltTy} {off : Fin 2 → ℕ} {o : ℕ} (hoff : off = ![o, 0])
    (inb : ∀ a, off a + S128x4096.size a ≤ S1024x4096.size a) {sp : Space} (M : Memref sig .tc sp S1024x4096 e)
    (f : M.view.ty.Contents (Elt F)) (P : Vec F S128x4096 e) {X : S128x4096.Idx → Elt F e} (hX : X = P) :
    PutRows o P (M.view.read (Elt F) f)
      (M.view.read (Elt F) (M.view.writes (Elt F) f
        [(⟨Rect.unit (s := S1024x4096) off S128x4096.size inb, X⟩ : View.Piece (Elt F) S1024x4096 e)])) := by
  subst hX
  exact ⟨fun y x h0 h1 => View.read_writes_cons_rows_of_mem M.view f inb X [] y x hoff h0 h1,
    fun y h => View.read_writes_cons_rows_of_not_mem M.view f inb X [] y hoff rfl h⟩

/-- The program `P` does one point's work: from input chunks `x`, `r`, the weight row `nw`, a weight block `w` and a scale
    `s`, with this row block `A` in `cur` and the next row block's rows so far `B` in `nxt`, it leaves the product in `a9`,
    the sum in `a10`, `cur` as it was, and the quantised chunk in the rows of `nxt` from `o` on. -/
def DoesPoint (c : Dev nD) (a3 a4 : Memref sig .tc .vmem S128x4096 .f32) (a5 : Memref sig .tc .vmem S1x4096 .f32)
    (a6 : Memref sig .tc .vmem S1536x4096 .fp8e4m3) (a7 : Memref sig .tc .smem S1 .f32) (a9 : Memref sig .tc .vmem S1024x1536 .f32)
    (a10 : Memref sig .tc .vmem S128x4096 .f32) (cur nxt : Memref sig .tc .vmem S1024x4096 .fp8e4m3) (o : ℕ)
    (P : Prog (TpuEff nD τ sig (Elt F) Λ₀ .tc) PUnit) : Prop :=
  ∀ (x r : Vec F S128x4096 .f32) (nw : Vec F S1x4096 .f32) (w : Vec F S1536x4096 .fp8e4m3) (s : Vec F S1 .f32)
    (A B : Vec F S1024x4096 .fp8e4m3) (E : Set ℕ) (K : PUnit → sProp 𝕄),
    iprop(owns (c : Thread nD τ) a3 fullShare x ∗ owns (c : Thread nD τ) a4 fullShare r
        ∗ owns (c : Thread nD τ) a5 fullShare nw ∗ owns (c : Thread nD τ) a6 fullShare w ∗ owns (c : Thread nD τ) a7 fullShare s
        ∗ (∃ d, owns (c : Thread nD τ) a9 fullShare d) ∗ (∃ d, owns (c : Thread nD τ) a10 fullShare d)
        ∗ owns (c : Thread nD τ) cur fullShare A ∗ owns (c : Thread nD τ) nxt fullShare B
        ∗ (iprop(owns (c : Thread nD τ) a3 fullShare x ∗ owns (c : Thread nD τ) a4 fullShare r
            ∗ owns (c : Thread nD τ) a5 fullShare nw ∗ owns (c : Thread nD τ) a6 fullShare w ∗ owns (c : Thread nD τ) a7 fullShare s
            ∗ owns (c : Thread nD τ) a9 fullShare (k1_pay4 A w (s theOne)) ∗ owns (c : Thread nD τ) a10 fullShare (k1_pay2 x r)
            ∗ owns (c : Thread nD τ) cur fullShare A
            ∗ (∃ B', ⌜PutRows o (k1_pay3 x r nw) B B'⌝ ∗ owns (c : Thread nD τ) nxt fullShare B')) -∗ K ⟨⟩))
      ⊢ wp frame (wpE (defs₀ (F := F)) Variants.none c none) E P K

/-- The two parts of the body do a point's work: the one run at an even row block with this row block in scratch 0 and the
    next in scratch 1, the one run at an odd row block with the two exchanged. -/
theorem parts (c : Dev nD) (i : grid1.Coords) {o : ℕ}
    (a2 : Memref sig .tc .vmem S1024x4096 .fp8e4m3) (h2 : a2.IsWhole) (a3 : Memref sig .tc .vmem S128x4096 .f32) (h3 : a3.IsWhole)
    (a4 : Memref sig .tc .vmem S128x4096 .f32) (h4 : a4.IsWhole) (a5 : Memref sig .tc .vmem S1x4096 .f32) (h5 : a5.IsWhole)
    (a6 : Memref sig .tc .vmem S1536x4096 .fp8e4m3) (h6 : a6.IsWhole) (a7 : Memref sig .tc .smem S1 .f32) (h7 : a7.IsWhole)
    (a8 : Memref sig .tc .hbm S8192x4096 .f32) (h8 : a8.IsWhole) (a9 : Memref sig .tc .vmem S1024x1536 .f32) (h9 : a9.IsWhole)
    (a10 : Memref sig .tc .vmem S128x4096 .f32) (h10 : a10.IsWhole) (a11 : Memref sig .tc .vmem S1024x4096 .fp8e4m3) (h11 : a11.IsWhole)
    (a12 : Memref sig .tc .vmem S1024x4096 .fp8e4m3) (h12 : a12.IsWhole) (v6 : BitVec 32) :
    (∀ hi : k1_cond2 i = 1#1, k1_off1 i = ![o, 0] →
      DoesPoint (F := F) c a3 a4 a5 a6 a7 a9 a10 a11 a12 o (k1_part1 i a2 h2 a3 h3 a4 h4 a5 h5 a6 h6 a7 h7 a8 h8 a9 h9 a10 h10 a11 h11 a12 h12 v6 hi))
    ∧ (∀ hi : k1_cond3 i = 1#1, k1_off2 i = ![o, 0] →
      DoesPoint (F := F) c a3 a4 a5 a6 a7 a9 a10 a12 a11 o (k1_part2 i a2 h2 a3 h3 a4 h4 a5 h5 a6 h6 a7 h7 a8 h8 a9 h9 a10 h10 a11 h11 a12 h12 v6 hi)) := by
  simp only [k1_part1_eq_skeleton, k1_part2_eq_skeleton]; unfold k1_part1_skel k1_part2_skel DoesPoint
  refine ⟨fun hi hoff x r nw w s A B E K => ?_, fun hi hoff x r nw w s A B E K => ?_⟩ <;>
  · unfold owns
    iintro ⟨⟨%f3, %e3, H3⟩, ⟨%f4, %e4, H4⟩, ⟨%f5, %e5, H5⟩, ⟨%f6, %e6, H6⟩, ⟨%f7, %e7, H7⟩, ⟨%d9, %f9, -, H9⟩, ⟨%d10, %f10, -, H10⟩, ⟨%fc, %ec, Hc⟩, ⟨%fn, %en, Hn⟩, Hk⟩
    subst e3 e4 e5 e6 e7 ec en
    sl_exec
    sl_step
    iapply Hk
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]; · iexists f7; isplitr; · ipureintro; rfl
                    iexact H7
    isplitl [H9]
    · iexists _; isplitr; swap; · iexact H9
      ipureintro
      exact read_after_whole_store off_zero _ _ _ (congr (congrArg₂ k1_pay4 (load_whole off_zero _ _ fc) (load_whole off_zero _ _ f6))
        ((congrFun (load_whole off_zero1 _ a7 f7) _).trans (congrArg _ (the_one _))))
    isplitl [H10]
    · iexists _; isplitr; swap; · iexact H10
      ipureintro
      exact read_after_whole_store off_zero _ _ _ (congrArg₂ k1_pay2 (load_whole off_zero _ _ f3) (load_whole off_zero _ _ f4))
    isplitl [Hc]; · iexists fc; isplitr; · ipureintro; rfl
                    iexact Hc
    iexists _; isplitr; swap
    · iexists _; isplitr; swap; · iexact Hn
      ipureintro; rfl
    ipureintro
    exact putRows_store hoff _ _ _ _ (congr (congrArg₂ k1_pay3 (load_whole off_zero _ _ f3) (load_whole off_zero _ _ f4))
      (load_whole off_zero _ _ f5))

/-- The condition under which the body fills scratch 0 from its operand, as the kernel computes it. -/
def firstCond (i : grid1.Coords) : BitVec 1 :=
  Scalar.cmpi .ne (Scalar.extui (Scalar.andi (Scalar.cmpi .eq (BitVec.ofNat 32 (i 0).val) 0#32)
    (Scalar.cmpi .eq (BitVec.ofNat 32 (i 1).val) 0#32)) : BitVec 32) 0#32

/-- A program that does a point's work and then returns does the point's work. -/
theorem DoesPoint.return {c : Dev nD} {a3 a4 : Memref sig .tc .vmem S128x4096 .f32} {a5 : Memref sig .tc .vmem S1x4096 .f32}
    {a6 : Memref sig .tc .vmem S1536x4096 .fp8e4m3} {a7 : Memref sig .tc .smem S1 .f32} {a9 : Memref sig .tc .vmem S1024x1536 .f32}
    {a10 : Memref sig .tc .vmem S128x4096 .f32} {cur nxt : Memref sig .tc .vmem S1024x4096 .fp8e4m3} {o : ℕ}
    {P : Prog (TpuEff nD τ sig (Elt F) Λ₀ .tc) PUnit} (h : DoesPoint (F := F) c a3 a4 a5 a6 a7 a9 a10 cur nxt o P) :
    DoesPoint (F := F) c a3 a4 a5 a6 a7 a9 a10 cur nxt o (P >>= fun _ => pure ⟨⟩) := by
  intro x r nw w s A B E K
  rw [wp_bind]
  iintro ⟨H3, H4, H5, H6, H7, H9, H10, Hc, Hn, Hk⟩
  iapply (h x r nw w s A B E _)
  isplitl [H3]; · iexact H3
  isplitl [H4]; · iexact H4
  isplitl [H5]; · iexact H5
  isplitl [H6]; · iexact H6
  isplitl [H7]; · iexact H7
  isplitl [H9]; · iexact H9
  isplitl [H10]; · iexact H10
  isplitl [Hc]; · iexact Hc
  isplitl [Hn]; · iexact Hn
  iintro H
  sl_step
  iapply Hk
  iexact H

/-- A point of an even row block other than the very first: scratch 0 holds this row block, scratch 1 takes the next. -/
theorem body_even (c : Dev nD) (i : grid1.Coords) (hf : ¬ firstCond i = 1#1) (hi : k1_cond2 i = 1#1) (hi' : ¬ k1_cond3 i = 1#1)
    {o : ℕ} (hoff : k1_off1 i = ![o, 0])
    (a2 : Memref sig .tc .vmem S1024x4096 .fp8e4m3) (h2 : a2.IsWhole) (a3 : Memref sig .tc .vmem S128x4096 .f32) (h3 : a3.IsWhole)
    (a4 : Memref sig .tc .vmem S128x4096 .f32) (h4 : a4.IsWhole) (a5 : Memref sig .tc .vmem S1x4096 .f32) (h5 : a5.IsWhole)
    (a6 : Memref sig .tc .vmem S1536x4096 .fp8e4m3) (h6 : a6.IsWhole) (a7 : Memref sig .tc .smem S1 .f32) (h7 : a7.IsWhole)
    (a8 : Memref sig .tc .hbm S8192x4096 .f32) (h8 : a8.IsWhole) (a9 : Memref sig .tc .vmem S1024x1536 .f32) (h9 : a9.IsWhole)
    (a10 : Memref sig .tc .vmem S128x4096 .f32) (h10 : a10.IsWhole) (a11 : Memref sig .tc .vmem S1024x4096 .fp8e4m3) (h11 : a11.IsWhole)
    (a12 : Memref sig .tc .vmem S1024x4096 .fp8e4m3) (h12 : a12.IsWhole) :
    DoesPoint (F := F) c a3 a4 a5 a6 a7 a9 a10 a11 a12 o (cc1__fused_kernel i a2 h2 a3 h3 a4 h4 a5 h5 a6 h6 a7 h7 a8 h8 a9 h9 a10 h10 a11 h11 a12 h12) := by
  simp only [cc1__fused_kernel_eq_skeleton]; unfold cc1__fused_kernel_skel
  unfold firstCond at hf
  simp only [dif_neg hf, dif_pos hi, dif_neg hi']
  exact ((parts c i a2 h2 a3 h3 a4 h4 a5 h5 a6 h6 a7 h7 a8 h8 a9 h9 a10 h10 a11 h11 a12 h12 _).1 hi hoff).return

/-- A point of an odd row block: scratch 1 holds this row block, scratch 0 takes the next. -/
theorem body_odd (c : Dev nD) (i : grid1.Coords) (hf : ¬ firstCond i = 1#1) (hi : ¬ k1_cond2 i = 1#1) (hi' : k1_cond3 i = 1#1)
    {o : ℕ} (hoff : k1_off2 i = ![o, 0])
    (a2 : Memref sig .tc .vmem S1024x4096 .fp8e4m3) (h2 : a2.IsWhole) (a3 : Memref sig .tc .vmem S128x4096 .f32) (h3 : a3.IsWhole)
    (a4 : Memref sig .tc .vmem S128x4096 .f32) (h4 : a4.IsWhole) (a5 : Memref sig .tc .vmem S1x4096 .f32) (h5 : a5.IsWhole)
    (a6 : Memref sig .tc .vmem S1536x4096 .fp8e4m3) (h6 : a6.IsWhole) (a7 : Memref sig .tc .smem S1 .f32) (h7 : a7.IsWhole)
    (a8 : Memref sig .tc .hbm S8192x4096 .f32) (h8 : a8.IsWhole) (a9 : Memref sig .tc .vmem S1024x1536 .f32) (h9 : a9.IsWhole)
    (a10 : Memref sig .tc .vmem S128x4096 .f32) (h10 : a10.IsWhole) (a11 : Memref sig .tc .vmem S1024x4096 .fp8e4m3) (h11 : a11.IsWhole)
    (a12 : Memref sig .tc .vmem S1024x4096 .fp8e4m3) (h12 : a12.IsWhole) :
    DoesPoint (F := F) c a3 a4 a5 a6 a7 a9 a10 a12 a11 o (cc1__fused_kernel i a2 h2 a3 h3 a4 h4 a5 h5 a6 h6 a7 h7 a8 h8 a9 h9 a10 h10 a11 h11 a12 h12) := by
  simp only [cc1__fused_kernel_eq_skeleton]; unfold cc1__fused_kernel_skel
  unfold firstCond at hf
  simp only [dif_neg hf, dif_neg hi, dif_pos hi']
  exact ((parts c i a2 h2 a3 h3 a4 h4 a5 h5 a6 h6 a7 h7 a8 h8 a9 h9 a10 h10 a11 h11 a12 h12 _).2 hi' hoff).return

/-- Copying the whole of the operand, converted, into scratch 0 before a program `P`. -/
theorem fill_then (c : Dev nD) (a2 : Memref sig .tc .vmem S1024x4096 .fp8e4m3) (h2 : a2.IsWhole)
    (a11 : Memref sig .tc .vmem S1024x4096 .fp8e4m3) (h11 : a11.IsWhole) (q : Vec F S1024x4096 .fp8e4m3)
    (P : Prog (TpuEff nD τ sig (Elt F) Λ₀ .tc) PUnit) (R : sProp 𝕄) (E : Set ℕ) (K : PUnit → sProp 𝕄)
    (h : iprop(owns (c : Thread nD τ) a2 fullShare q ∗ owns (c : Thread nD τ) a11 fullShare (k1_pay1 q) ∗ R)
      ⊢ wp frame (wpE (defs₀ (F := F)) Variants.none c none) E P K)
    {p1 p2 p3 p4} :
    iprop(owns (c : Thread nD τ) a2 fullShare q ∗ (∃ d, owns (c : Thread nD τ) a11 fullShare d) ∗ R)
      ⊢ wp frame (wpE (defs₀ (F := F)) Variants.none c none) E
        (do
          let v15 ← Prog.lift (TpuEff.load a2 (Rect.unit (s := S1024x4096) ![0, 0] S1024x4096.size inb_S1024x4096_S1024x4096_0_0).toLoadRect p1)
          let _ ← Prog.lift (TpuEff.load a11 (Rect.unit (s := S1024x4096) ![0, 0] S1024x4096.size inb_S1024x4096_S1024x4096_0_0).toLoadRect p2)
          Prog.lift (TpuEff.store a11 (Rect.unit (s := S1024x4096) ![0, 0] S1024x4096.size inb_S1024x4096_S1024x4096_0_0) (k1_pay1 v15) Finset.univ p3 p4)
          P) K := by
  unfold owns at h ⊢
  iintro ⟨⟨%f2, %e2, H2⟩, ⟨%d11, %f11, -, H11⟩, HR⟩
  sl_exec
  iapply h
  isplitl [H2]
  · iexists f2; isplitr; · ipureintro; exact e2
    iexact H2
  isplitl [H11]
  · iexists _; isplitr; swap; · iexact H11
    ipureintro
    exact read_after_whole_store off_zero _ _ _ (congrArg k1_pay1 ((load_whole off_zero _ _ f2).trans e2))
  iexact HR

/-- The very first point: scratch 0 is first filled with the operand `q`, whatever it held. -/
theorem body_first (c : Dev nD) (i : grid1.Coords) (hf : firstCond i = 1#1) (hi : k1_cond2 i = 1#1) (hi' : ¬ k1_cond3 i = 1#1)
    {o : ℕ} (hoff : k1_off1 i = ![o, 0])
    (a2 : Memref sig .tc .vmem S1024x4096 .fp8e4m3) (h2 : a2.IsWhole) (a3 : Memref sig .tc .vmem S128x4096 .f32) (h3 : a3.IsWhole)
    (a4 : Memref sig .tc .vmem S128x4096 .f32) (h4 : a4.IsWhole) (a5 : Memref sig .tc .vmem S1x4096 .f32) (h5 : a5.IsWhole)
    (a6 : Memref sig .tc .vmem S1536x4096 .fp8e4m3) (h6 : a6.IsWhole) (a7 : Memref sig .tc .smem S1 .f32) (h7 : a7.IsWhole)
    (a8 : Memref sig .tc .hbm S8192x4096 .f32) (h8 : a8.IsWhole) (a9 : Memref sig .tc .vmem S1024x1536 .f32) (h9 : a9.IsWhole)
    (a10 : Memref sig .tc .vmem S128x4096 .f32) (h10 : a10.IsWhole) (a11 : Memref sig .tc .vmem S1024x4096 .fp8e4m3) (h11 : a11.IsWhole)
    (a12 : Memref sig .tc .vmem S1024x4096 .fp8e4m3) (h12 : a12.IsWhole)
    (q : Vec F S1024x4096 .fp8e4m3)
    (x r : Vec F S128x4096 .f32) (nw : Vec F S1x4096 .f32) (w : Vec F S1536x4096 .fp8e4m3) (s : Vec F S1 .f32)
    (B : Vec F S1024x4096 .fp8e4m3) (E : Set ℕ) (K : PUnit → sProp 𝕄) :
    iprop(owns (c : Thread nD τ) a2 fullShare q ∗ owns (c : Thread nD τ) a3 fullShare x ∗ owns (c : Thread nD τ) a4 fullShare r
        ∗ owns (c : Thread nD τ) a5 fullShare nw ∗ owns (c : Thread nD τ) a6 fullShare w ∗ owns (c : Thread nD τ) a7 fullShare s
        ∗ (∃ d, owns (c : Thread nD τ) a9 fullShare d) ∗ (∃ d, owns (c : Thread nD τ) a10 fullShare d)
        ∗ (∃ d, owns (c : Thread nD τ) a11 fullShare d) ∗ owns (c : Thread nD τ) a12 fullShare B
        ∗ (iprop(owns (c : Thread nD τ) a2 fullShare q ∗ owns (c : Thread nD τ) a3 fullShare x ∗ owns (c : Thread nD τ) a4 fullShare r
            ∗ owns (c : Thread nD τ) a5 fullShare nw ∗ owns (c : Thread nD τ) a6 fullShare w ∗ owns (c : Thread nD τ) a7 fullShare s
            ∗ owns (c : Thread nD τ) a9 fullShare (k1_pay4 (k1_pay1 q) w (s theOne)) ∗ owns (c : Thread nD τ) a10 fullShare (k1_pay2 x r)
            ∗ owns (c : Thread nD τ) a11 fullShare (k1_pay1 q)
            ∗ (∃ B', ⌜PutRows o (k1_pay3 x r nw) B B'⌝ ∗ owns (c : Thread nD τ) a12 fullShare B')) -∗ K ⟨⟩))
      ⊢ wp frame (wpE (defs₀ (F := F)) Variants.none c none) E (cc1__fused_kernel i a2 h2 a3 h3 a4 h4 a5 h5 a6 h6 a7 h7 a8 h8 a9 h9 a10 h10 a11 h11 a12 h12) K := by
  have rest := (((parts (F := F) c i a2 h2 a3 h3 a4 h4 a5 h5 a6 h6 a7 h7 a8 h8 a9 h9 a10 h10 a11 h11 a12 h12
    (Scalar.muli (Scalar.minsi (BitVec.ofNat 32 (i 1).val) 7#32) 128#32)).1 hi hoff).return) x r nw w s (k1_pay1 q) B E K
  simp only [cc1__fused_kernel_eq_skeleton]; unfold cc1__fused_kernel_skel
  unfold firstCond at hf
  simp only [dif_pos hf, dif_pos hi, dif_neg hi']
  refine BIBase.Entails.trans ?_ (fill_then c a2 h2 a11 h11 q _
    iprop(owns (c : Thread nD τ) a3 fullShare x ∗ owns (c : Thread nD τ) a4 fullShare r
        ∗ owns (c : Thread nD τ) a5 fullShare nw ∗ owns (c : Thread nD τ) a6 fullShare w ∗ owns (c : Thread nD τ) a7 fullShare s
        ∗ (∃ d, owns (c : Thread nD τ) a9 fullShare d) ∗ (∃ d, owns (c : Thread nD τ) a10 fullShare d)
        ∗ owns (c : Thread nD τ) a12 fullShare B
        ∗ (iprop(owns (c : Thread nD τ) a2 fullShare q ∗ owns (c : Thread nD τ) a3 fullShare x ∗ owns (c : Thread nD τ) a4 fullShare r
            ∗ owns (c : Thread nD τ) a5 fullShare nw ∗ owns (c : Thread nD τ) a6 fullShare w ∗ owns (c : Thread nD τ) a7 fullShare s
            ∗ owns (c : Thread nD τ) a9 fullShare (k1_pay4 (k1_pay1 q) w (s theOne)) ∗ owns (c : Thread nD τ) a10 fullShare (k1_pay2 x r)
            ∗ owns (c : Thread nD τ) a11 fullShare (k1_pay1 q)
            ∗ (∃ B', ⌜PutRows o (k1_pay3 x r nw) B B'⌝ ∗ owns (c : Thread nD τ) a12 fullShare B')) -∗ K ⟨⟩)) E K ?_)
  · iintro ⟨H2, H3, H4, H5, H6, H7, H9, H10, H11, H⟩
    isplitl [H2]; · iexact H2
    isplitl [H11]; · iexact H11
    isplitl [H3]; · iexact H3
    isplitl [H4]; · iexact H4
    isplitl [H5]; · iexact H5
    isplitl [H6]; · iexact H6
    isplitl [H7]; · iexact H7
    isplitl [H9]; · iexact H9
    isplitl [H10]; · iexact H10
    iexact H
  iintro ⟨H2, H11, H3, H4, H5, H6, H7, H9, H10, H12, Hk⟩
  iapply rest
  isplitl [H3]; · iexact H3
  isplitl [H4]; · iexact H4
  isplitl [H5]; · iexact H5
  isplitl [H6]; · iexact H6
  isplitl [H7]; · iexact H7
  isplitl [H9]; · iexact H9
  isplitl [H10]; · iexact H10
  isplitl [H11]; · iexact H11
  isplitl [H12]; · iexact H12
  iintro H
  iapply Hk
  isplitl [H2]; · iexact H2
  iexact H

end Cert.Proof.Fused

end
-- ==== Proof.FusedRegion.lean ====
/-
  The second kernel's launch: what its buffers hold at every grid point, and its body at every grid point.

  Row block `i` of the quantised input is multiplied at the eight points `(i, j)`; at those same points row block `i + 1`
  is quantised, 128 rows a point. The two scratch buffers hold the two row blocks and exchange roles after every eight
  points.
-/
module

public import proofs.«01_k».proof.Proof.FusedBody
public import proofs.«01_k».proof.Proof.RegionRecord

@[expose] public section

noncomputable section

namespace Cert.Proof.Fused

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-- Window `w`'s block at point `t`, of its array at the entry valuation. -/
def iblk (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-! ## The quantised row blocks -/

/-- The grid has 64 points. -/
theorem N_eq : cfg1.N = 64 := N_1

/-- The grid point of number `n` (modulo the grid's size). -/
def pt (n : ℕ) : Fin cfg1.N := ⟨n % 64, by rw [N_eq]; exact Nat.mod_lt _ (by decide)⟩

theorem pt_val (t : Fin cfg1.N) : pt t.val = t := Fin.ext (Nat.mod_eq_of_lt (t.isLt.trans_eq N_eq))

/-- The quantised chunk the body computes at point `t`. -/
def chunk (c : Dev nD) (t : Fin cfg1.N) : Vec F S128x4096 .fp8e4m3 := k1_pay3 (iblk V c 1 t) (iblk V c 2 t) (iblk V c 3 t)

/-- The place within its chunk of 128 rows of a row block's place. -/
def inChunk (y : S1024x4096.Idx) : S128x4096.Idx :=
  fun a => match a with
    | ⟨0, _⟩ => ⟨(y (0 : Fin 2)).val % 128, Nat.mod_lt _ (by decide)⟩
    | ⟨1, _⟩ => y (1 : Fin 2)

/-- Row block `i` of the quantised input as the launch has it: the first from its operand, each other from the chunks of the
    eight points before. -/
def rowBlock (c : Dev nD) : ℕ → Vec F S1024x4096 .fp8e4m3
  | 0 => k1_pay1 (iblk V c 0 (pt 0))
  | i + 1 => fun y => chunk V c (pt (8 * i + (y (0 : Fin 2)).val / 128)) (inChunk y)

/-- What the two scratch buffers hold before point `n`: this row block, and the next one's chunks so far. -/
def Holds (c : Dev nD) (n : ℕ) (A B : Vec F S1024x4096 .fp8e4m3) : Prop :=
  (n ≠ 0 → A = rowBlock V c (n / 8)) ∧ ∀ y : S1024x4096.Idx, (y (0 : Fin 2)).val < 128 * (n % 8) → B y = rowBlock V c (n / 8 + 1) y

/-- Putting point `n`'s chunk in its rows extends the next row block by 128 rows. -/
theorem rows_step (c : Dev nD) (t : Fin cfg1.N) (A B B' : Vec F S1024x4096 .fp8e4m3) (h : Holds V c t.val A B)
    (hput : PutRows (128 * (t.val % 8)) (chunk V c t) B B') (y : S1024x4096.Idx) (hy : (y (0 : Fin 2)).val < 128 * (t.val % 8) + 128) :
    B' y = rowBlock V c (t.val / 8 + 1) y := by
  by_cases hlt : (y (0 : Fin 2)).val < 128 * (t.val % 8)
  · exact (hput.2 y (Or.inl hlt)).trans (h.2 y hlt)
  · have hd : (y (0 : Fin 2)).val / 128 = t.val % 8 := by omega
    have hp : pt (8 * (t.val / 8) + (y (0 : Fin 2)).val / 128) = t := by
      rw [hd, Nat.div_add_mod, pt_val]
    refine (hput.1 y (inChunk y) ?_ rfl).trans ?_
    · show _ = _ + (y (0 : Fin 2)).val % 128
      omega
    · show _ = chunk V c (pt (8 * (t.val / 8) + (y (0 : Fin 2)).val / 128)) (inChunk y)
      rw [hp]

/-- Within a row block the two buffers keep their roles. -/
theorem holds_same (c : Dev nD) (t : Fin cfg1.N) (A B B' : Vec F S1024x4096 .fp8e4m3) (h : Holds V c t.val A B)
    (hA : A = rowBlock V c (t.val / 8)) (hput : PutRows (128 * (t.val % 8)) (chunk V c t) B B') (ht : t.val % 8 ≠ 7) :
    Holds V c (t.val + 1) A B' := by
  have h1 : (t.val + 1) / 8 = t.val / 8 := by omega
  have h2 : (t.val + 1) % 8 = t.val % 8 + 1 := by omega
  refine ⟨fun _ => by rw [h1]; exact hA, fun y hy => ?_⟩
  rw [h1]
  exact rows_step V c t A B B' h hput y (by omega)

/-- After a row block's last point they exchange them. -/
theorem holds_swap (c : Dev nD) (t : Fin cfg1.N) (A B B' : Vec F S1024x4096 .fp8e4m3) (h : Holds V c t.val A B)
    (hput : PutRows (128 * (t.val % 8)) (chunk V c t) B B') (ht : t.val % 8 = 7) :
    Holds V c (t.val + 1) B' A := by
  have h1 : (t.val + 1) / 8 = t.val / 8 + 1 := by omega
  have h2 : (t.val + 1) % 8 = 0 := by omega
  refine ⟨fun _ => ?_, fun y hy => absurd hy (by omega)⟩
  rw [h1]
  funext y
  refine rows_step V c t A B B' h hput y ?_
  have : (y (0 : Fin 2)).val < 1024 := (y (0 : Fin 2)).isLt
  omega

/-- The two scratch buffers. -/
abbrev scr0 : Memref sig .tc .vmem S1024x4096 .fp8e4m3 := Memref.whole cc1_scratch0
abbrev scr1 : Memref sig .tc .vmem S1024x4096 .fp8e4m3 := Memref.whole cc1_scratch1

/-- `cur` holds this row block and `nxt` the next one's chunks so far, before point `n`. -/
def scratchAs (c : Dev nD) (n : ℕ) (cur nxt : Memref sig .tc .vmem S1024x4096 .fp8e4m3) : sProp 𝕄 :=
  iprop(∃ A B, ⌜Holds V c n A B⌝ ∗ owns (c : Thread nD τ) cur fullShare A ∗ owns (c : Thread nD τ) nxt fullShare B)

/-- The scratch buffers before point `n`: in an even row block the first is current, in an odd one the second. -/
def scratch (c : Dev nD) (n : ℕ) : sProp 𝕄 :=
  if n / 8 % 2 = 0 then scratchAs V c n scr0 scr1 else scratchAs V c n scr1 scr0

/-- A buffer at something. -/
abbrev held1 (c : Dev nD) (b : Ref sig .tc) : sProp 𝕄 :=
  iprop(∃ f : Buf (Elt F) ((c : Thread nD τ).loc b), ((c : Thread nD τ).loc b) ↦{fullShare} f)

/-- The first launch's staging buffers, each at something. -/
def unused (c : Dev nD) : sProp 𝕄 :=
  iprop(held1 (F := F) c cc0_stg0_0 ∗ held1 (F := F) c cc0_stg0_1 ∗ held1 (F := F) c cc0_stg1_0 ∗ held1 (F := F) c cc0_stg1_1 ∗ held1 (F := F) c cc0_stg2_0 ∗ held1 (F := F) c cc0_stg3_0 ∗ held1 (F := F) c cc0_stg3_1 ∗ held1 (F := F) c cc0_stg4_0 ∗ held1 (F := F) c cc0_stg4_1 ∗ held1 (F := F) c cc0_stg5_0 ∗ held1 (F := F) c cc0_stg5_1 ∗ held1 (F := F) c cc0_stg6_0 ∗ held1 (F := F) c cc0_stg6_1)

/-- The launch's proof data: the arrays at the entry valuation; the six input buffers at their blocks, the two result buffers
    at the body's results. -/
def dat (c : Dev nD) : Dat τ (Elt F) Unit ℕ (UR sig nD τ) ℕ cfg1 c where
  A w := V c (Proc.devRef .tc (Pipeline.arrRef spec1 w))
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => k1_pay4 (rowBlock V c (t.val / 8)) (iblk V c 4 t) (iblk V c 5 t theOne)
    | ⟨7, _⟩ => k1_pay2 (iblk V c 1 t) (iblk V c 2 t)
  Φ t := iprop(unused (F := F) c ∗ scratch V c t.val)
  q _ := fullShare
  owed _ := 0

/-- The arrays start at the entry valuation. -/
theorem A_eq (c : Dev nD) (w : Fin cfg1.W) : (dat V c).A w = V c (Proc.devRef .tc (Pipeline.arrRef spec1 w)) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) :
    (dat V c).after 6 t = k1_pay4 (rowBlock V c (t.val / 8)) (iblk V c 4 t) (iblk V c 5 t theOne) := by dsimp only [dat]
theorem after_7 (c : Dev nD) (t : Fin cfg1.N) : (dat V c).after 7 t = k1_pay2 (iblk V c 1 t) (iblk V c 2 t) := by
  dsimp only [dat]

/-- Each input buffer holds its block at every point. -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]) t d).trans
    (by unfold Dat.fetched Dat.blockOf iblk; rw [A_eq]; rfl)
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]) t d).trans
    (by unfold Dat.fetched Dat.blockOf iblk; rw [A_eq]; rfl)
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]) t d).trans
    (by unfold Dat.fetched Dat.blockOf iblk; rw [A_eq]; rfl)
theorem before_3 (c : Dev nD) (t : Fin cfg1.N) (d) : (dat V c).before 3 t d = iblk V c 3 t :=
  ((dat V c).before_in_eq_fetched 3 rfl (fun _ => rfl) (fun _ _ _ => rfl)
    (fun t => by rw [after_3]; unfold Dat.blockOf iblk; rw [A_eq]) t d).trans
    (by unfold Dat.fetched Dat.blockOf iblk; rw [A_eq]; rfl)
theorem before_4 (c : Dev nD) (t : Fin cfg1.N) (d) : (dat V c).before 4 t d = iblk V c 4 t :=
  ((dat V c).before_in_eq_fetched 4 rfl (fun _ => rfl) (fun _ _ _ => rfl)
    (fun t => by rw [after_4]; unfold Dat.blockOf iblk; rw [A_eq]) t d).trans
    (by unfold Dat.fetched Dat.blockOf iblk; rw [A_eq]; rfl)
theorem before_5 (c : Dev nD) (t : Fin cfg1.N) (d) : (dat V c).before 5 t d = iblk V c 5 t :=
  ((dat V c).before_in_eq_fetched 5 rfl (fun _ => rfl) (fun _ _ _ => rfl)
    (fun t => by rw [after_5]; unfold Dat.blockOf iblk; rw [A_eq]) t d).trans
    (by unfold Dat.fetched Dat.blockOf iblk; rw [A_eq]; rfl)

/-! ## The points -/

/-- Which branches the body takes at a point, and where it puts its chunk. -/
theorem point_facts : ∀ t : Fin grid1.N,
    (k1_cond2 (grid1.coords t) = 1#1 ↔ t.val / 8 % 2 = 0) ∧ (k1_cond3 (grid1.coords t) = 1#1 ↔ t.val / 8 % 2 = 1)
    ∧ (firstCond (grid1.coords t) = 1#1 ↔ t.val = 0)
    ∧ k1_off1 (grid1.coords t) = ![128 * (t.val % 8), 0] ∧ k1_off2 (grid1.coords t) = ![128 * (t.val % 8), 0] := by decide +kernel

/-- The body writes both its results at every point. -/
theorem never_idle : ∀ (w : Fin 8) (t : Fin grid1.N), idle1 w (grid1.coords t) = false := by decide +kernel

/-- The body's work at a point in terms of the two scratch buffers' roles. -/
theorem scratch_step (c : Dev nD) (t : Fin cfg1.N) (cur nxt : Memref sig .tc .vmem S1024x4096 .fp8e4m3)
    (A B B' : Vec F S1024x4096 .fp8e4m3) (h : Holds V c t.val A B) (hA : A = rowBlock V c (t.val / 8))
    (hput : PutRows (128 * (t.val % 8)) (chunk V c t) B B') :
    iprop(owns (c : Thread nD τ) cur fullShare A ∗ owns (c : Thread nD τ) nxt fullShare B')
      ⊢ if t.val % 8 = 7 then scratchAs V c (t.val + 1) nxt cur else scratchAs V c (t.val + 1) cur nxt := by
  split
  · rename_i h7
    unfold scratchAs
    iintro ⟨Hc, Hn⟩
    iexists B', A
    isplitr; · ipureintro; exact holds_swap V c t A B B' h hput h7
    isplitl [Hn]; · iexact Hn
    iexact Hc
  · rename_i h7
    unfold scratchAs
    iintro ⟨Hc, Hn⟩
    iexists A, B'
    isplitr; · ipureintro; exact holds_same V c t A B B' h hA hput h7
    isplitl [Hc]; · iexact Hc
    iexact Hn

/-- After an even row block's point the scratch buffers are as the next point wants them. -/
theorem next_even (c : Dev nD) (t : Fin cfg1.N) (hpar : t.val / 8 % 2 = 0)
    (A B B' : Vec F S1024x4096 .fp8e4m3) (h : Holds V c t.val A B) (hA : A = rowBlock V c (t.val / 8))
    (hput : PutRows (128 * (t.val % 8)) (chunk V c t) B B') :
    iprop(owns (c : Thread nD τ) scr0 fullShare A ∗ owns (c : Thread nD τ) scr1 fullShare B') ⊢ scratch V c (t.val + 1) := by
  refine (scratch_step V c t scr0 scr1 A B B' h hA hput).trans (Entails.of_eq ?_)
  unfold scratch
  split
  · rw [if_neg (by omega)]
  · rw [if_pos (by omega)]

/-- And after an odd one's. -/
theorem next_odd (c : Dev nD) (t : Fin cfg1.N) (hpar : ¬ t.val / 8 % 2 = 0)
    (A B B' : Vec F S1024x4096 .fp8e4m3) (h : Holds V c t.val A B) (hA : A = rowBlock V c (t.val / 8))
    (hput : PutRows (128 * (t.val % 8)) (chunk V c t) B B') :
    iprop(owns (c : Thread nD τ) scr1 fullShare A ∗ owns (c : Thread nD τ) scr0 fullShare B') ⊢ scratch V c (t.val + 1) := by
  refine (scratch_step V c t scr1 scr0 A B B' h hA hput).trans (Entails.of_eq ?_)
  unfold scratch
  split
  · rw [if_pos (by omega)]
  · rw [if_neg (by omega)]

/-- The buffers at a point, before and after: what the body takes and leaves beside the scratch buffers. -/
theorem sound_body (c : Dev nD) (t : Fin cfg1.N) :
    iprop((dat V c).Φ t.castSucc ∗ (dat V c).owesAt () t.castSucc
        ∗ (∃ d, owns (c : Thread nD τ) (st1_0 t) fullShare ((dat V c).before 0 t d))
        ∗ (∃ d, owns (c : Thread nD τ) (st1_1 t) fullShare ((dat V c).before 1 t d))
        ∗ (∃ d, owns (c : Thread nD τ) (st1_2 t) fullShare ((dat V c).before 2 t d))
        ∗ (∃ d, owns (c : Thread nD τ) (st1_3 t) fullShare ((dat V c).before 3 t d))
        ∗ (∃ d, owns (c : Thread nD τ) (st1_4 t) fullShare ((dat V c).before 4 t d))
        ∗ (∃ d, owns (c : Thread nD τ) (st1_5 t) fullShare ((dat V c).before 5 t d))
        ∗ (∃ d, owns (c : Thread nD τ) (st1_6 t) fullShare ((dat V c).before 6 t d))
        ∗ (∃ d, owns (c : Thread nD τ) (st1_7 t) fullShare ((dat V c).before 7 t d)))
      ⊢ wp frame (wpE (defs₀ (F := F)) Variants.none c none) Set.univ (bodyAt1 t) (fun _ =>
        iprop((dat V c).Φ t.succ ∗ (dat V c).owesAt () t.succ
          ∗ owns (c : Thread nD τ) (st1_0 t) fullShare ((dat V c).after 0 t)
          ∗ owns (c : Thread nD τ) (st1_1 t) fullShare ((dat V c).after 1 t)
          ∗ owns (c : Thread nD τ) (st1_2 t) fullShare ((dat V c).after 2 t)
          ∗ owns (c : Thread nD τ) (st1_3 t) fullShare ((dat V c).after 3 t)
          ∗ owns (c : Thread nD τ) (st1_4 t) fullShare ((dat V c).after 4 t)
          ∗ owns (c : Thread nD τ) (st1_5 t) fullShare ((dat V c).after 5 t)
          ∗ owns (c : Thread nD τ) (st1_6 t) fullShare ((dat V c).after 6 t)
          ∗ owns (c : Thread nD τ) (st1_7 t) fullShare ((dat V c).after 7 t))) := by
  unfold bodyAt1
  simp only [before_0, before_1, before_2, before_3, before_4, before_5]
  rw [show (dat V c).Φ t.castSucc = iprop(unused (F := F) c ∗ scratch V c t.val) from rfl,
    show (dat V c).Φ t.succ = iprop(unused (F := F) c ∗ scratch V c (t.val + 1)) from rfl,
    show (dat V c).owesAt () t.succ = (dat V c).owesAt () t.castSucc from rfl, after_0, after_1, after_2, after_3, after_4, after_5,
    after_6, after_7]
  obtain ⟨h2, h3, hf, ho1, ho2⟩ := point_facts t
  by_cases hpar : t.val / 8 % 2 = 0
  · have hc2 := h2.mpr hpar
    have hc3 : ¬ k1_cond3 (grid1.coords t) = 1#1 := fun h => absurd (h3.mp h) (by omega)
    rw [show scratch V c t.val = scratchAs V c t.val scr0 scr1 from if_pos hpar]
    unfold scratchAs
    iintro ⟨⟨Hu, ⟨%A, %B, %hold, Hc, Hn⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    by_cases h0 : t.val = 0
    · have hA : k1_pay1 (iblk V c 0 t) = rowBlock V c (t.val / 8) := by
        rw [h0]; show _ = k1_pay1 (iblk V c 0 (pt 0)); rw [← h0, pt_val]
      have hold' : Holds V c t.val (k1_pay1 (iblk V c 0 t)) B := ⟨fun h => absurd h0 h, hold.2⟩
      iapply (body_first c (grid1.coords t) (hf.mpr h0) hc2 hc3 ho1 _ _ _ _ _ _ _ _ _ _ _ _ _ _ _ _ _ _ _ _ _ _ (iblk V c 0 t) (iblk V c 1 t) (iblk V c 2 t) (iblk V c 3 t) (iblk V c 4 t) (iblk V c 5 t) B Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [Hc]; · iexists _; iexact Hc
      isplitl [Hn]; · iexact Hn
      iintro ⟨H0, H1, H2, H3, H4, H5, H6, H7, Hc, ⟨%B', %hput, Hn⟩⟩
      rw [← hA]
      isplitl [Hu Hc Hn]
      · isplitl [Hu]; · iexact Hu
        iapply (next_even V c t hpar _ B B' hold' hA hput)
        isplitl [Hc]; · iexact Hc
        iexact Hn
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hA := hold.1 h0
      iapply (body_even c (grid1.coords t) (fun h => h0 (hf.mp h)) hc2 hc3 ho1 _ _ _ _ _ _ _ _ _ _ _ _ _ _ _ _ _ _ _ _ _ _ (iblk V c 1 t) (iblk V c 2 t) (iblk V c 3 t) (iblk V c 4 t) (iblk V c 5 t) A B Set.univ _)
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [Hc]; · iexact Hc
      isplitl [Hn]; · iexact Hn
      iintro ⟨H1, H2, H3, H4, H5, H6, H7, Hc, ⟨%B', %hput, Hn⟩⟩
      rw [← hA]
      isplitl [Hu Hc Hn]
      · isplitl [Hu]; · iexact Hu
        iapply (next_even V c t hpar _ B B' hold hA hput)
        isplitl [Hc]; · iexact Hc
        iexact Hn
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · have hc2 : ¬ k1_cond2 (grid1.coords t) = 1#1 := fun h => hpar (h2.mp h)
    have hc3 := h3.mpr (by omega)
    have h0 : t.val ≠ 0 := fun h => hpar (by rw [h])
    rw [show scratch V c t.val = scratchAs V c t.val scr1 scr0 from if_neg hpar]
    unfold scratchAs
    iintro ⟨⟨Hu, ⟨%A, %B, %hold, Hc, Hn⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have hA := hold.1 h0
    iapply (body_odd c (grid1.coords t) (fun h => h0 (hf.mp h)) hc2 hc3 ho2 _ _ _ _ _ _ _ _ _ _ _ _ _ _ _ _ _ _ _ _ _ _ (iblk V c 1 t) (iblk V c 2 t) (iblk V c 3 t) (iblk V c 4 t) (iblk V c 5 t) A B Set.univ _)
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [Hc]; · iexact Hc
    isplitl [Hn]; · iexact Hn
    iintro ⟨H1, H2, H3, H4, H5, H6, H7, Hc, ⟨%B', %hput, Hn⟩⟩
    rw [← hA]
    isplitl [Hu Hc Hn]
    · isplitl [Hu]; · iexact Hu
      iapply (next_odd V c t hpar _ B B' hold hA hput)
      isplitl [Hc]; · iexact Hc
      iexact Hn
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The pipeline's call at a point is the body on the point's buffers. -/
theorem row (t : Fin cfg1.N) : defs₀ (F := F) .tc cfg1.body (cfg1.bodyArgs t (cfg1.slots t)) = bodyAt1 t := by
  unfold defs₀; rw [Defs.onTc_tc]

/-- The body does what the pipeline asks, at every point. -/
theorem body_obligation (c : Dev nD) : BodyObligation (dat V c) (defs₀ (F := F)) Variants.none () Set.univ := fun t => by
  rw [bigSep_W1, row]
  refine triple_restated (sound_body V c t) rfl .rfl fun _ => sep_mono .rfl (sep_mono .rfl ?_)
  refine (show _ ⊢ bigSep Finset.univ fun w : Fin cfg1.W =>
    owns (c : Thread nD τ) ((cfg1.win w).stage (cfg1.slots t w)) fullShare ((dat V c).after w t) from ?_).trans
    (bigSep_mono fun w _ => leaves_of_after (dat V c) w t fun hi _ => absurd hi (by
      rw [show cfg1.idle w (cfg1.grid.coords t) = false from never_idle w t]; decide))
  rw [bigSep_W1]

/-- The invariant at the launch's start and at its end, against the buffers the launch does not stage. -/
theorem start (c : Dev nD) : others (F := F) 1 c ⊢ (dat V c).Φ 0 := by
  rw [show (dat V c).Φ 0 = iprop(unused (F := F) c ∗ scratchAs V c 0 scr0 scr1) from rfl]
  unfold others unused scratchAs
  rw [show Pipeline.scopedRest (cfgs 1).spec c = _ from scopedRest1_eq (Ix := Unit) (Name := ℕ) (U := UR sig nD τ) (Lvl := ℕ) (Val := Elt F) c]
  simp only [owns_whole_eq]
  iintro ⟨H0, H1, H2, H3, H4, H5, H6, H7, H8, H9, H10, H11, H12, ⟨%f, Hf⟩, ⟨%g, Hg⟩⟩
  isplitr [Hf Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iexists f, g
  isplitr; · ipureintro; exact ⟨fun h => absurd rfl h, fun y hy => absurd hy (Nat.not_lt_zero _)⟩
  isplitl [Hf]
  · iexists f; isplitr; · ipureintro; rfl
    iexact Hf
  iexists g; isplitr; · ipureintro; rfl
  iexact Hg

theorem finish (c : Dev nD) : (dat V c).Φ (Fin.last cfg1.N) ⊢ others (F := F) 1 c := by
  rw [show (dat V c).Φ (Fin.last cfg1.N) = iprop(unused (F := F) c ∗ scratch V c cfg1.N) from rfl, N_eq,
    show scratch V c 64 = scratchAs V c 64 scr0 scr1 from if_pos rfl]
  unfold others unused scratchAs
  rw [show Pipeline.scopedRest (cfgs 1).spec c = _ from scopedRest1_eq (Ix := Unit) (Name := ℕ) (U := UR sig nD τ) (Lvl := ℕ) (Val := Elt F) c]
  simp only [owns_whole_eq]
  iintro ⟨⟨H0, H1, H2, H3, H4, H5, H6, H7, H8, H9, H10, H11, H12⟩, ⟨%A, %B, -, ⟨%f, -, Hf⟩, ⟨%g, -, Hg⟩⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [Hf]; · iexists f; iexact Hf
  iexists g; iexact Hg

end Cert.Proof.Fused

end
-- ==== Proof.Run.lean ====
/-
  The whole program: every run ends, with every buffer at the contents the two launches and the host operations leave.
-/
module

public import proofs.«01_k».proof.Proof.PrologueRegion
public import proofs.«01_k».proof.Proof.FusedRegion

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers after each launch -/

/-- The buffers after the first launch: its three results as its write-backs leave them. -/
def left0 (c : Dev nD) : Valuation τ sig (Elt F) :=
  Function.update (Function.update (Function.update (V1 m c)
    (Proc.devRef .tc main_v5_0) ((Prologue.dat (V1 m) c).arrAt 4 cfg0.N))
    (Proc.devRef .tc main_v5_1) ((Prologue.dat (V1 m) c).arrAt 5 cfg0.N))
    (Proc.devRef .tc main_v5_2) ((Prologue.dat (V1 m) c).arrAt 6 cfg0.N)

/-- What the first launch leaves, as the generated valuations want it. -/
def outsA : Outs (F := F) := fun _ r c => left0 m c (Proc.devRef .tc r)

/-- The buffers when the second launch starts. -/
abbrev mid (c : Dev nD) : Valuation τ sig (Elt F) := V3 m (outsA m) c

/-- The buffers after the second launch: its two results as its write-backs leave them. -/
def left1 (c : Dev nD) : Valuation τ sig (Elt F) :=
  Function.update (Function.update (mid m c)
    (Proc.devRef .tc main_v6_0) ((Fused.dat (mid m) c).arrAt 6 cfg1.N))
    (Proc.devRef .tc main_v6_1) ((Fused.dat (mid m) c).arrAt 7 cfg1.N)

/-- What the two launches leave. -/
def outs : Outs (F := F) := fun J r c => match J with
  | 2 => left0 m c (Proc.devRef .tc r)
  | _ => left1 m c (Proc.devRef .tc r)

/-- Different buffers of a core are different. -/
theorem ne_ref {a b : Ref sig .tc} (h : a ≠ b) : (Proc.devRef .tc a : DevRef τ sig) ≠ Proc.devRef .tc b :=
  StableHlo.devRef_ne_of_ne h

theorem left0_v5_0 (c : Dev nD) : left0 m c (Proc.devRef .tc main_v5_0) = (Prologue.dat (V1 m) c).arrAt 4 cfg0.N := by
  unfold left0
  rw [Function.update_of_ne (ne_ref (by decide)), Function.update_of_ne (ne_ref (by decide)), Function.update_self]
theorem left0_v5_1 (c : Dev nD) : left0 m c (Proc.devRef .tc main_v5_1) = (Prologue.dat (V1 m) c).arrAt 5 cfg0.N := by
  unfold left0
  rw [Function.update_of_ne (ne_ref (by decide)), Function.update_self]
theorem left0_v5_2 (c : Dev nD) : left0 m c (Proc.devRef .tc main_v5_2) = (Prologue.dat (V1 m) c).arrAt 6 cfg0.N := by
  unfold left0
  rw [Function.update_self]
theorem left1_v6_0 (c : Dev nD) : left1 m c (Proc.devRef .tc main_v6_0) = (Fused.dat (mid m) c).arrAt 6 cfg1.N := by
  unfold left1
  rw [Function.update_of_ne (ne_ref (by decide)), Function.update_self]
theorem left1_v6_1 (c : Dev nD) : left1 m c (Proc.devRef .tc main_v6_1) = (Fused.dat (mid m) c).arrAt 7 cfg1.N := by
  unfold left1
  rw [Function.update_self]

/-- The first launch changes only its three results. -/
theorem left0_of (c : Dev nD) (r : Ref sig .tc) (h0 : r ≠ main_v5_0) (h1 : r ≠ main_v5_1) (h2 : r ≠ main_v5_2) :
    left0 m c (Proc.devRef .tc r) = V1 m c (Proc.devRef .tc r) := by
  unfold left0
  rw [Function.update_of_ne (ne_ref h2), Function.update_of_ne (ne_ref h1), Function.update_of_ne (ne_ref h0)]
/-- The second only its two. -/
theorem left1_of (c : Dev nD) (r : Ref sig .tc) (h0 : r ≠ main_v6_0) (h1 : r ≠ main_v6_1) :
    left1 m c (Proc.devRef .tc r) = mid m c (Proc.devRef .tc r) := by
  unfold left1
  rw [Function.update_of_ne (ne_ref h1), Function.update_of_ne (ne_ref h0)]

/-- The valuation the first launch ends at. -/
theorem V2_eq (c : Dev nD) : V2 m (outs m) c = left0 m c := by
  show Function.update (Function.update (Function.update (V1 m c) _ (left0 m c (Proc.devRef .tc main_v5_0))) _
    (left0 m c (Proc.devRef .tc main_v5_1))) _ (left0 m c (Proc.devRef .tc main_v5_2)) = left0 m c
  rw [left0_v5_0, left0_v5_1, left0_v5_2]; rfl

/-- The valuation the second launch ends at. -/
theorem V4_eq (c : Dev nD) : V4 m (outs m) c = left1 m c := by
  show Function.update (Function.update (Function.update (mid m c) _ (left1 m c (Proc.devRef .tc main_v6_0))) _
    (left1 m c (Proc.devRef .tc main_v6_1))) _ (left1 m c (Proc.devRef .tc main_v5_0)) = left1 m c
  rw [left1_of m c main_v5_0 (by decide) (by decide), left1_v6_0, left1_v6_1]
  funext b
  by_cases hb : b = Proc.devRef .tc main_v5_0
  · subst hb
    rw [Function.update_self, left1_of m c main_v5_0 (by decide) (by decide)]
  · rw [Function.update_of_ne hb]; rfl

/-! ## The two launches -/

/-- The two launches' proof data. -/
abbrev dats : (p : Fin 2) → (c : Dev nD) → Dat τ (Elt F) Unit ℕ (UR sig nD τ) ℕ (cfgs p) c :=
  both (Prologue.dat (V1 m)) (Fused.dat (mid m))

theorem exit0 (c : Dev nD) (w : Fin cfg0.W) :
    (Prologue.dat (V1 m) c).arrAt w cfg0.N = left0 m c (Proc.devRef .tc (Pipeline.arrRef spec0 w)) := by
  have inp : ∀ w : Fin cfg0.W, (cfg0.win w).isOut = false → Pipeline.arrRef spec0 w ≠ main_v5_0 → Pipeline.arrRef spec0 w ≠ main_v5_1 →
      Pipeline.arrRef spec0 w ≠ main_v5_2 →
      (Prologue.dat (V1 m) c).arrAt w cfg0.N = left0 m c (Proc.devRef .tc (Pipeline.arrRef spec0 w)) := fun w h h0 h1 h2 =>
    ((Prologue.dat (V1 m) c).arrAt_in w h _).trans ((Prologue.A_eq (V1 m) c w).trans (left0_of m c _ h0 h1 h2).symm)
  fin_cases w
  · exact inp 0 rfl (by decide) (by decide) (by decide)
  · exact inp 1 rfl (by decide) (by decide) (by decide)
  · exact inp 2 rfl (by decide) (by decide) (by decide)
  · exact inp 3 rfl (by decide) (by decide) (by decide)
  · exact (left0_v5_0 m c).symm
  · exact (left0_v5_1 m c).symm
  · exact (left0_v5_2 m c).symm

theorem exit1 (c : Dev nD) (w : Fin cfg1.W) :
    (Fused.dat (mid m) c).arrAt w cfg1.N = left1 m c (Proc.devRef .tc (Pipeline.arrRef spec1 w)) := by
  have inp : ∀ w : Fin cfg1.W, (cfg1.win w).isOut = false → Pipeline.arrRef spec1 w ≠ main_v6_0 → Pipeline.arrRef spec1 w ≠ main_v6_1 →
      (Fused.dat (mid m) c).arrAt w cfg1.N = left1 m c (Proc.devRef .tc (Pipeline.arrRef spec1 w)) := fun w h h0 h1 =>
    ((Fused.dat (mid m) c).arrAt_in w h _).trans ((Fused.A_eq (mid m) c w).trans (left1_of m c _ h0 h1).symm)
  fin_cases w
  · exact inp 0 rfl (by decide) (by decide)
  · exact inp 1 rfl (by decide) (by decide)
  · exact inp 2 rfl (by decide) (by decide)
  · exact inp 3 rfl (by decide) (by decide)
  · exact inp 4 rfl (by decide) (by decide)
  · exact inp 5 rfl (by decide) (by decide)
  · exact (left1_v6_0 m c).symm
  · exact (left1_v6_1 m c).symm

/-- The first launch as a step of the program. -/
def region0 : Pipeline.RegionSeg (pcfgs (F := F)) adm (dats m) () defs₀ Variants.none noLevels zeroLevel 0 :=
  region 0 launch0 (dats m) (fun c => Prologue.body_obligation (V1 m) c) (fun _ w => (Dat.share_full _ (fun _ => rfl) w)) (fun _ _ => rfl) (fun _ => rfl)
    (V1 m) (left0 m) (fun c w => Prologue.A_eq (V1 m) c w) (fun _ => .rfl) (fun _ => .rfl) (exit0 m)
    (fun c b hb => left0_of m c b
      (fun h => hb (h ▸ Finset.mem_image.mpr ⟨4, Finset.mem_univ _, rfl⟩))
      (fun h => hb (h ▸ Finset.mem_image.mpr ⟨5, Finset.mem_univ _, rfl⟩))
      (fun h => hb (h ▸ Finset.mem_image.mpr ⟨6, Finset.mem_univ _, rfl⟩)))

/-- The second launch as a step of the program. -/
def region1 : Pipeline.RegionSeg (pcfgs (F := F)) adm (dats m) () defs₀ Variants.none noLevels zeroLevel 1 :=
  region 1 launch1 (dats m) (fun c => Fused.body_obligation (mid m) c) (fun _ w => (Dat.share_full _ (fun _ => rfl) w)) (fun _ _ => rfl) (fun _ => rfl)
    (mid m) (left1 m) (fun c w => Fused.A_eq (mid m) c w) (fun c => Fused.start (mid m) c) (fun c => Fused.finish (mid m) c) (exit1 m)
    (fun c b hb => left1_of m c b
      (fun h => hb (h ▸ Finset.mem_image.mpr ⟨6, Finset.mem_univ _, rfl⟩))
      (fun h => hb (h ▸ Finset.mem_image.mpr ⟨7, Finset.mem_univ _, rfl⟩)))

/-! ## The run -/

/-- The resources the launch starts from. -/
abbrev ghost : UR sig nD τ := initOf (Pipeline.cells cfgs cellOf_inj) (Pipeline.launchToks cfgs cellOf_inj)

-- the run lemma's implicit arguments are found by unfolding plain definitions
set_option backward.isDefEq.respectTransparency.types false in
/-- Every weakly fair run of the program from memory `m` ends, with every buffer that outlives a launch at `left1 m` and
    every semaphore at zero. -/
theorem run_main (ρ : Dev nD → PrngReg) :
    θ_run defs (onTc (τ := τ) (main (F := F))) ⟨m, fun _ => 0, ρ⟩ (fun r =>
      (∀ (c : Dev nD) (b : Ref sig .tc), Proc.devRef .tc b ∈ Pipeline.ucRefs τ sig →
        r.2.mem ((c.tc : Thread nD τ).loc b) = left1 m c (Proc.devRef .tc b))
      ∧ r.2.sem = fun _ => 0) := by
  refine Pipeline.θ_run_regions_kit_dev_sems (pcfgs (F := F)) adm (dats m) () cellOf_inj emb₁ defs₀ Variants.none noLevels zeroLevel m ρ main
    (segs m (outs m) Variants.none noLevels zeroLevel (fun _ => idleCore (F := F)) () (dats m) (region0 m) (region1 m))
    (fun c Q => ?_) (fun c => ?_) (fun _ => 0) (fun _ _ => rfl) (fun _ => BI.emp) (ghost) ?_
    (T₀ := fun c => iprop(StableHlo.held (c : Thread nD τ) (Pipeline.ucRefs τ sig) (V0 m c) ∗ idleCore (F := F) c))
    (Tₙ := fun c => StableHlo.held (c : Thread nD τ) (Pipeline.ucRefs τ sig) (left1 m c))
    (hch := fun c => ⟨.rfl, .rfl, ?_, .rfl, .rfl⟩)
    (hinit := ?_)
    (QY := fun c s => ∀ b : Ref sig .tc, Proc.devRef .tc b ∈ Pipeline.ucRefs τ sig →
      s.mem ((c.tc : Thread nD τ).loc b) = left1 m c (Proc.devRef .tc b))
    (hfin := fun c s' => ?_) (hQ := fun _ h hz => ⟨h, funext fun g => hz g (.inr (regions_no_unscoped g.2))⟩)
  · rewrite [main_chain c, Pipeline.Seg.run_eq_chain]
    exact .rfl
  · simp only [segs, Pipeline.Seg.pipes_host, Pipeline.Seg.pipes_region, Pipeline.Seg.pipes_nil]; decide
  · iintro Hu
    imodintro
    isplitl [Hu]
    · iapply (show (ownU _ : sProp 𝕄) ⊢ BI.own (emb₁ ghost) from .rfl); iexact Hu
    iapply (show (BI.emp : sProp 𝕄) ⊢ bigSep Finset.univ (fun _ : Dev nD => BI.emp) from by rw [BI.bigSep_emp_const])
    iempintro
  · show iprop(StableHlo.held (c : Thread nD τ) (Pipeline.ucRefs τ sig) (left0 m c) ∗ idleCore (F := F) c)
      ⊢ iprop(StableHlo.held (c : Thread nD τ) (Pipeline.ucRefs τ sig) (V2 m (outs m) c) ∗ idleCore (F := F) c)
    rw [V2_eq]
  · refine BIBase.Entails.trans (sep_mono_l (bigSep_mono fun c _ => ?_)) (show iprop(bigSep Finset.univ (fun c : Dev nD =>
      iprop(StableHlo.held (c : Thread nD τ) (Pipeline.ucRefs τ sig) (V0 m c) ∗ idleCore (F := F) c)) ∗ levAts noLevels zeroLevel) ⊢ _ from ?_)
    · rw [← Pipeline.unscopedBufs_held (Ix := Unit) (Name := ℕ) (U := UR sig nD τ) (Lvl := ℕ) c (V0 m c)]
      show (_ : sProp 𝕄) ⊢ _
      iintro ⟨Hb, -, Ho, -⟩
      isplitl [Hb]; · iexact Hb
      iexists ∅; iexact Ho
    · iintro ⟨H, -⟩
      imodintro
      iexact H
  · unfold StableHlo.held
    iintro ⟨Hh, HSI⟩
    ihave Hr := (pointsTo_read_all (Pipeline.ucRefs τ sig) (fun b => ((c : Thread nD τ).1, b)) (left1 m c) s') $$ [Hh HSI]
    · isplitl [Hh] <;> iassumption
    icases Hr with ⟨%h, HSI⟩
    imodintro
    isplitr
    · ipureintro; exact fun b hb => h (Proc.devRef .tc b) hb
    · iexact HSI

end Cert.Proof.Run

end
-- ==== Proof.Frames.lean ====
/-
  The frames: every run of the kernel ends with its arguments as they were and every semaphore at zero, whatever the
  arithmetic.
-/
module

public import proofs.«01_k».proof.Defs
public import proofs.«01_k».proof.Proof.Run
public import proofs.«01_k».proof.Proof.Gen.Kernel

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The arguments end as they started, under any reading of the arithmetic. -/
theorem args_kept (m : (ℓ : Loc nD τ sig) → Buf (Elt F) ℓ) (c : Dev nD) :
    left1 m c (Proc.devRef .tc main_arg0) = m ((c.tc : Thread nD τ).loc main_arg0) ∧
    left1 m c (Proc.devRef .tc main_arg1) = m ((c.tc : Thread nD τ).loc main_arg1) ∧
    left1 m c (Proc.devRef .tc main_arg2) = m ((c.tc : Thread nD τ).loc main_arg2) ∧
    left1 m c (Proc.devRef .tc main_arg3) = m ((c.tc : Thread nD τ).loc main_arg3) ∧
    left1 m c (Proc.devRef .tc main_arg4) = m ((c.tc : Thread nD τ).loc main_arg4) ∧
    left1 m c (Proc.devRef .tc main_arg5) = m ((c.tc : Thread nD τ).loc main_arg5) := by
  rw [← V4_eq]
  exact ⟨V4_main_arg0 m (outs m) c, V4_main_arg1 m (outs m) c, V4_main_arg2 m (outs m) c, V4_main_arg3 m (outs m) c, V4_main_arg4 m (outs m) c, V4_main_arg5 m (outs m) c⟩

/-- An argument of the program outlives the launches. -/
theorem arg_uc : ∀ b ∈ [main_arg0, main_arg1, main_arg2, main_arg3, main_arg4, main_arg5, main_v6_0, main_v6_1],
    Proc.devRef .tc b ∈ Pipeline.ucRefs τ sig := by
  intro b hb
  refine Finset.mem_filter.mpr ⟨StableHlo.devRef_mem_tcRefs b, ?_⟩
  revert b
  decide

/-- Every run ends with the arguments as they were, the two results as the second launch leaves them, and every semaphore at
    zero. -/
theorem run_values (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_v6_0) = (Fused.dat (mid m) c).arrAt 6 cfg1.N
        ∧ r.2.mem ((c.tc : Thread nD τ).loc main_v6_1) = (Fused.dat (mid m) c).arrAt 7 cfg1.N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
      ∧ r.2.sem = fun _ => 0) :=
  (θ_run _ _ _).mono (fun r h => ⟨fun c => by
    obtain ⟨e0, e1, e2, e3, e4, e5⟩ := args_kept m c
    exact ⟨(h.1 c _ (arg_uc _ (by decide))).trans (left1_v6_0 m c), (h.1 c _ (arg_uc _ (by decide))).trans (left1_v6_1 m c),
      (h.1 c _ (arg_uc _ (by decide))).trans e0,
      (h.1 c _ (arg_uc _ (by decide))).trans e1,
      (h.1 c _ (arg_uc _ (by decide))).trans e2,
      (h.1 c _ (arg_uc _ (by decide))).trans e3,
      (h.1 c _ (arg_uc _ (by decide))).trans e4,
      (h.1 c _ (arg_uc _ (by decide))).trans e5⟩, h.2⟩) (run_main m ρ)

/-- The frame, under any reading of the arithmetic. -/
theorem frame (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
      ∧ r.2.sem = fun _ => 0) :=
  (θ_run _ _ _).mono (fun _ h => ⟨fun c => (h.1 c).2.2, h.2⟩) (run_values m ρ)

/-- The kernel with exact arithmetic. -/
theorem frame_ideal : Cert.quiescent_KernelIdeal := fun m g _ => frame m g

end Cert.Proof.Run

end
-- ==== Proof.SameText.lean ====
/-
  The kernel as printed and the kernel read with exact arithmetic are one text: stated function by function, for any
  reading of the arithmetic.
-/
module

public import proofs.«01_k».proof.Proof.Gen.Kernel
public import proofs.«01_k».proof.Proof.Gen.KernelIdeal

@[expose] public section

noncomputable section

namespace Cert.Proof.SameText

open Idealize.ShloMosaic

variable {F : FTy → Type} [FloatOps F]

-- each equality compares two long texts
set_option maxHeartbeats 10000000

/-- The second kernel's body at an even row block, and at an odd one. -/
theorem part1_eq : @Cert.Kernel.k1_part1 F _ _ = @Cert.KernelIdeal.k1_part1 F _ _ := rfl
theorem part2_eq : @Cert.Kernel.k1_part2 F _ _ = @Cert.KernelIdeal.k1_part2 F _ _ := rfl

/-- The second kernel's body. -/
theorem fused_eq : @Cert.Kernel.cc1__fused_kernel F _ _ = @Cert.KernelIdeal.cc1__fused_kernel F _ _ := by
  funext i a2 h2 a3 h3 a4 h4 a5 h5 a6 h6 a7 h7 a8 h8 a9 h9 a10 h10 a11 h11 a12 h12
  unfold Cert.Kernel.cc1__fused_kernel Cert.KernelIdeal.cc1__fused_kernel
  simp only [part1_eq, part2_eq]
  rfl

/-- The table of the two bodies. -/
theorem body_eq : @Cert.Kernel.defs₀ F _ _ = @Cert.KernelIdeal.defs₀ F _ _ := by
  unfold Cert.Kernel.defs₀ Cert.KernelIdeal.defs₀
  refine congrArg Defs.onTc ?_
  funext l x
  match l, x with
  | ⟨0, _⟩, (t, s) => rfl
  | ⟨1, _⟩, (t, s) =>
    dsimp only
    rw [fused_eq]
    rfl

/-- The whole table. -/
theorem defs_eq : @Cert.Kernel.defs F _ _ = @Cert.KernelIdeal.defs F _ _ := by
  unfold Cert.Kernel.defs Cert.KernelIdeal.defs
  rw [body_eq]
  rfl

/-- The program. -/
theorem main_eq : @Cert.Kernel.main F _ _ = @Cert.KernelIdeal.main F _ _ := rfl

end Cert.Proof.SameText

end
-- ==== Proof.FrameBits.lean ====
/-
  The frame of the kernel with its own arithmetic: the frame of the same text, read at floating-point bits.
-/
module

public import proofs.«01_k».proof.Proof.Frames
public import proofs.«01_k».proof.Proof.SameText

@[expose] public section

noncomputable section

namespace Cert.Proof

set_option maxHeartbeats 10000000 in
/-- Every run of the kernel as printed ends with its arguments as they were and every semaphore at zero. -/
theorem frame_bits : Cert.quiescent_Kernel := by
  intro m g _
  rw [SameText.main_eq, SameText.defs_eq]
  exact Cert.Proof.Run.frame (F := Idealize.ShloMosaic.Bits) m g

end Cert.Proof

end
-- ==== Proof.BlockMaths.lean ====
/-
  What one block computes, with exact arithmetic: the sum of the input and the residual, the quantised normalised row, and the
  scaled product of quantised rows with rows of the weight.
-/
module

public import proofs.«01_k».proof.Proof.Gen.KernelIdeal.Skeleton
public import Idealize.ShloMosaic.Lib.ValueIdx
public import Idealize.ShloMosaic.Lib.MatmulPlain
public import Idealize.ShloMosaic.Lib.IdealHost
public import Idealize.ShloMosaic.Lib.Pointwise.Reduce
public import Idealize.ShloMosaic.Lib.Pipeline.Value

@[expose] public section

noncomputable section

namespace Cert.Proof.Maths

open Idealize.ShloMosaic
open Idealize.ShloMosaic.ValueIdx (constant_apply)
open Cert.KernelIdeal Cert.KernelIdeal.Gen
open scoped BigOperators

/-- The reciprocal of the root of the mean square of a row, the mean raised by the small constant of the program. -/
def invRms (a : Fin 4096 → EReal) : EReal :=
  Ideal.rsqrt (Ideal.div (∑ k : Fin 4096, a k * a k) (Ideal.ofBits .f32 0x45800000#32) + Ideal.ofBits .f32 0x3727C5AC#32)

/-- A number held between −448 and 448. -/
def clip (v : EReal) : EReal :=
  min (Ideal.ofBits .f32 0x43E00000#32) (max (Ideal.ofBits .f32 0xC3E00000#32) v)

/-- An element of a quantised row: the row's element times the reciprocal root mean square times a weight, clipped. -/
def quant (a : Fin 4096 → EReal) (w : EReal) (d : Fin 4096) : EReal :=
  clip (a d * invRms a * w)

/-- The sum of two arrays. -/
def sums (x r : S8192x4096.Idx → EReal) : S8192x4096.Idx → EReal := fun i => x i + r i

/-- The quantised array: every row of the sum quantised, each column with its weight. -/
def quants (x r : S8192x4096.Idx → EReal) (nw : S1x4096.Idx → EReal) : S8192x4096.Idx → EReal :=
  fun i => quant (fun k => x (ix2 (i 0) k) + r (ix2 (i 0) k)) (nw (ix2 0 (i 1))) (i 1)

/-- The product array: every row of `q` against every row of `w`, times the scale. -/
def products (q : S8192x4096.Idx → EReal) (w : S12288x4096.Idx → EReal) (s : EReal) : S8192x12288.Idx → EReal :=
  fun i => (∑ k : Fin 4096, q (ix2 (i 0) k) * w (ix2 (i 1) k)) * s

/-- The block of sums is the sum, element by element. -/
theorem sum_block (x r : Vec Ideal S128x4096 .f32) (y : S128x4096.Idx) : k0_pay2 x r y = x y + r y := rfl

/-- The reciprocal root mean square of a row, spread over the row's elements. -/
theorem rms_block (v : FVec Ideal S128x4096 .f32) (e : BitVec 32) (n : BitVec 32) (p : Fin 128) (d : Fin 4096) :
    broadcastTo S128x4096 (rsqrt (addf (divf (shapeCast S128x1
      (multiReduction .add [1] S128 (mulf v v) 0x00000000#32 reduces_S128x4096_S128 (.inl rfl) rfl) shapeCasts_S128_S128x1)
      (broadcast S128x1 (Scalar.ofBits .f32 n : Ideal .f32))) (broadcast S128x1 (Scalar.ofBits .f32 e : Ideal .f32))))
      broadcasts_S128x1_S128x4096 (ix2 p d)
    = Ideal.rsqrt (Ideal.div (∑ k : Fin 4096, v (ix2 p k) * v (ix2 p k)) (Ideal.ofBits .f32 n) + Ideal.ofBits .f32 e) := by
  rw [broadcastTo_apply (k := (ix2 p 0 : S128x1.Idx)) (hk := fun a => by
    match a with
    | ⟨0, _⟩ => rfl
    | ⟨1, _⟩ => rfl)]
  show Ideal.rsqrt (Ideal.div (shapeCast S128x1 _ shapeCasts_S128_S128x1 (ix2 p 0)) (Ideal.ofBits .f32 n) + Ideal.ofBits .f32 e) = _
  rw [shapeCast_apply (k := (ix1 p : S128.Idx)) (hk := by
    rw [Shape.rowMajor_val_one, Shape.rowMajor_val_two]; show p.val = p.val * 1 + 0; omega)]
  show Ideal.rsqrt (Ideal.div (Ideal.reduceAdd reduces_S128x4096_S128 (mulf v v) (ix1 p)) _ + _) = _
  rw [Ideal.reduceAdd_r2_a1]
  rfl

/-- The quantised block, element by element: each row of sums quantised with the weight of its column. -/
theorem quant_block (x r : Vec Ideal S128x4096 .f32) (nw : Vec Ideal S1x4096 .f32) (p : Fin 128) (d : Fin 4096) :
    k0_pay3 x r nw (ix2 p d) = quant (fun k => x (ix2 p k) + r (ix2 p k)) (nw (ix2 0 d)) d := by
  have h1 := rms_block (k0_pay2 x r) 0x3727C5AC#32 0x45800000#32 p d
  have h2 : broadcastTo S128x4096 (shapeCast S1x4096 nw shapeCasts_S1x4096_S1x4096) broadcasts_S1x4096_S128x4096 (ix2 p d)
      = nw (ix2 0 d) := by
    rw [shapeCast_self, broadcastTo_apply (k := (ix2 0 d : S1x4096.Idx)) (hk := fun a => by
      match a with
      | ⟨0, _⟩ => rfl
      | ⟨1, _⟩ => rfl)]
  show min _ (max _ (k0_pay2 x r (ix2 p d) * _ * _)) = _
  rw [h1, h2]
  rfl

/-- The quantised block of the second launch is the same function. -/
theorem quant_block' (x r : Vec Ideal S128x4096 .f32) (nw : Vec Ideal S1x4096 .f32) (y : S128x4096.Idx) :
    k1_pay3 x r nw y = k0_pay3 x r nw y := by
  unfold k1_pay3
  rw [shapeCast_self]
  rfl

/-- A block carried over is unchanged. -/
theorem carried_block (q : Vec Ideal S1024x4096 .fp8e4m3) : k1_pay1 q = q := by
  unfold k1_pay1
  rw [shapeCast_self]
  exact shapeCast_self q _

/-- The product block: each row of `q` against each row of `w`, times the scale. -/
theorem product_block (q : Vec Ideal S1024x4096 .fp8e4m3) (w : Vec Ideal S1536x4096 .fp8e4m3) (s : Ideal .f32) (p : Fin 1024) (o : Fin 1536) :
    k1_pay4 q w s (ix2 p o) = (∑ k : Fin 4096, (q (ix2 p k) : EReal) * (w (ix2 o k) : EReal)) * s := by
  show FloatOps.matmul (DotDims.transposedRhs 1024 4096 1536) none q (shapeCast S1536x4096 w shapeCasts_S1536x4096_S1536x4096)
    (constant S1024x1536 .f32 0x00000000#32) (ix2 p o) * s = _
  rw [shapeCast_self, show (ix2 p o : S1024x1536.Idx) = ValueIdx.ix2 p o from rfl, Ideal.matmul_transposedRhs_apply,
    constant_apply, show Ideal.ofBits .f32 0x00000000#32 = (0 : EReal) by simp [Ideal.ofBits, Ideal.ieee], zero_add]
  rfl

end Cert.Proof.Maths

end
-- ==== Proof.PrologueArrays.lean ====
/-
  What the first launch leaves in its three result arrays, with exact arithmetic: the sum of the first 1024 rows, the quantised
  first 1024 rows, and the weight unchanged.
-/
module

public import proofs.«01_k».proof.Proof.PrologueRegion
public import proofs.«01_k».proof.Proof.BlockMaths
public import Idealize.ShloMosaic.Lib.Pipeline.ValueKit.Partial

@[expose] public section

noncomputable section

namespace Cert.Proof.Prologue

open Cert.KernelIdeal Cert.KernelIdeal.Gen
open Idealize.ShloMosaic Idealize.ShloMosaic.TcCoe
open Idealize.ShloMosaic.Pipeline (Dat Cfg Window)
open Cert.Proof.Maths

variable (V : Dev nD → Valuation τ sig (Elt Ideal)) (c : Dev nD)

/-- The argument arrays as the launch finds them. -/
abbrev xs : S8192x4096.Idx → EReal := V c (Proc.devRef .tc main_arg0)
abbrev rs : S8192x4096.Idx → EReal := V c (Proc.devRef .tc main_arg1)
abbrev nws : S1x4096.Idx → EReal := V c (Proc.devRef .tc main_v2)
abbrev ws : S12288x4096.Idx → EReal := V c (Proc.devRef .tc main_arg3)

/-- The chunks of the two inputs and of the two results lie at the same rows; every block spans all the columns. -/
theorem same_rows : ∀ t : Fin grid0.N,
    win0_0.index t 0 = min t.val 7 ∧ win0_1.index t 0 = min t.val 7 ∧ win0_4.index t 0 = min t.val 7 ∧ win0_5.index t 0 = min t.val 7
    ∧ win0_3.index t 0 = t.val ∧ win0_6.index t 0 = t.val ∧ win0_2.index t 0 = 0
    ∧ win0_0.index t 1 = 0 ∧ win0_1.index t 1 = 0 ∧ win0_4.index t 1 = 0 ∧ win0_5.index t 1 = 0 ∧ win0_3.index t 1 = 0
    ∧ win0_6.index t 1 = 0 ∧ win0_2.index t 1 = 0 := by decide +kernel

/-- The first input's chunk at point `t`. -/
theorem read_x (t : Fin cfg0.N) (p : Fin 128) (k : Fin 4096) (n : Fin 8192) (hn : n.val = min t.val 7 * 128 + p.val) :
    iblk V c 0 t (ix2 p k) = xs V c (ix2 n k) := by
  obtain ⟨h0, -, -, -, -, -, -, g0, -⟩ := same_rows t
  show xs V c ((win0_0.rect t).emb (ix2 p k)) = _
  refine congrArg (xs V c) (funext fun a => Fin.ext ?_)
  rw [Window.rect_emb_val win0_0 t (ix2 p k) a rfl]
  match a with
  | ⟨0, _⟩ =>
    show win0_0.index t 0 * 128 + p.val = n.val
    omega
  | ⟨1, _⟩ =>
    show win0_0.index t 1 * 4096 + k.val = k.val
    omega

/-- The second input's chunk at point `t`. -/
theorem read_r (t : Fin cfg0.N) (p : Fin 128) (k : Fin 4096) (n : Fin 8192) (hn : n.val = min t.val 7 * 128 + p.val) :
    iblk V c 1 t (ix2 p k) = rs V c (ix2 n k) := by
  obtain ⟨-, h0, -, -, -, -, -, -, g0, -⟩ := same_rows t
  show rs V c ((win0_1.rect t).emb (ix2 p k)) = _
  refine congrArg (rs V c) (funext fun a => Fin.ext ?_)
  rw [Window.rect_emb_val win0_1 t (ix2 p k) a rfl]
  match a with
  | ⟨0, _⟩ =>
    show win0_1.index t 0 * 128 + p.val = n.val
    omega
  | ⟨1, _⟩ =>
    show win0_1.index t 1 * 4096 + k.val = k.val
    omega

/-- The weights of the columns, at every point. -/
theorem read_nw (t : Fin cfg0.N) (k : Fin 4096) : iblk V c 2 t (ix2 0 k) = nws V c (ix2 0 k) := by
  obtain ⟨-, -, -, -, -, -, h0, -, -, -, -, -, -, g0⟩ := same_rows t
  show nws V c ((win0_2.rect t).emb (ix2 0 k)) = _
  refine congrArg (nws V c) (funext fun a => Fin.ext ?_)
  rw [Window.rect_emb_val win0_2 t (ix2 0 k) a rfl]
  match a with
  | ⟨0, _⟩ =>
    show win0_2.index t 0 * 1 + 0 = 0
    omega
  | ⟨1, _⟩ =>
    show win0_2.index t 1 * 4096 + k.val = k.val
    omega

/-- The sum after the launch: written in the first 1024 rows. -/
theorem sum_array (i : S8192x4096.Idx) (hi : (i 0).val < 1024) : (dat V c).arrAt 4 cfg0.N i = sums (xs V c) (rs V c) i := by
  have h := (dat V c).arrAt_apply_of_coversWhere 4 (P := fun i : S8192x4096.Idx => (i 0).val / 128 < 8) (sums (xs V c) (rs V c))
    (fun β => β 0 < 8) (by decide +kernel) (fun t hf y => ?_) (fun j => Iff.rfl) i
  · rw [h, if_pos (by omega)]
  · rw [after_4]
    obtain ⟨p, k, rfl⟩ : ∃ (p : Fin 128) (k : Fin 4096), y = (ix2 p k : S128x4096.Idx) := ⟨y 0, y 1, eq_ix2 _⟩
    obtain ⟨-, -, h0, -, -, -, -, -, -, g0, -⟩ := same_rows t
    have hp := p.isLt
    have e : (win0_4.rect t).emb (ix2 p k) = ix2 ⟨min t.val 7 * 128 + p.val, by omega⟩ k := by
      funext a
      apply Fin.ext
      rw [Window.rect_emb_val win0_4 t (ix2 p k) a rfl]
      match a with
      | ⟨0, _⟩ =>
        show win0_4.index t 0 * 128 + p.val = _
        rw [h0]
        rfl
      | ⟨1, _⟩ =>
        show win0_4.index t 1 * 4096 + k.val = k.val
        omega
    show k0_pay2 (iblk V c 0 t) (iblk V c 1 t) (ix2 p k) = sums (xs V c) (rs V c) ((win0_4.rect t).emb (ix2 p k))
    rw [e, sum_block, read_x V c t p k ⟨min t.val 7 * 128 + p.val, by omega⟩ rfl,
      read_r V c t p k ⟨min t.val 7 * 128 + p.val, by omega⟩ rfl]
    rfl

/-- The quantised rows after the launch: all 1024 of them. -/
theorem quant_array (p : Fin 1024) (k : Fin 4096) (n : Fin 8192) (hn : n.val = p.val) :
    (dat V c).arrAt 5 cfg0.N (ix2 p k : S1024x4096.Idx) = quants (xs V c) (rs V c) (nws V c) (ix2 n k) := by
  have h : (dat V c).arrAt 5 cfg0.N
      = fun i : S1024x4096.Idx => quants (xs V c) (rs V c) (nws V c) (ix2 ⟨(i 0).val, (i 0).isLt.trans (by decide)⟩ (i 1)) := by
    refine (dat V c).arrAt_eq_of_covers 5 _ (by decide +kernel) (fun t hf y => ?_)
    rw [after_5]
    obtain ⟨p, k, rfl⟩ : ∃ (p : Fin 128) (k : Fin 4096), y = (ix2 p k : S128x4096.Idx) := ⟨y 0, y 1, eq_ix2 _⟩
    obtain ⟨-, -, -, h0, -, -, -, -, -, -, g0, -⟩ := same_rows t
    have hp := p.isLt
    have e : (win0_5.rect t).emb (ix2 p k) = ix2 ⟨min t.val 7 * 128 + p.val, by omega⟩ k := by
      funext a
      apply Fin.ext
      rw [Window.rect_emb_val win0_5 t (ix2 p k) a rfl]
      match a with
      | ⟨0, _⟩ =>
        show win0_5.index t 0 * 128 + p.val = _
        rw [h0]
        rfl
      | ⟨1, _⟩ =>
        show win0_5.index t 1 * 4096 + k.val = k.val
        omega
    show k0_pay3 (iblk V c 0 t) (iblk V c 1 t) (iblk V c 2 t) (ix2 p k)
      = quants (xs V c) (rs V c) (nws V c) (ix2 ⟨((win0_5.rect t).emb (ix2 p k) 0).val, _⟩ ((win0_5.rect t).emb (ix2 p k) 1))
    rw [quant_block]
    simp only [e, read_nw, fun k => read_x V c t p k ⟨min t.val 7 * 128 + p.val, by omega⟩ rfl,
      fun k => read_r V c t p k ⟨min t.val 7 * 128 + p.val, by omega⟩ rfl]
    rfl
  rw [h]
  exact congrArg (fun n => quants (xs V c) (rs V c) (nws V c) (ix2 n k)) (Fin.ext hn.symm)

/-- The weight after the launch is the weight it found. -/
theorem weight_array : (dat V c).arrAt 6 cfg0.N = ws V c := by
  refine (dat V c).arrAt_eq_of_covers 6 _ (by decide +kernel) (fun t hf y => ?_)
  rw [after_6]
  obtain ⟨-, -, -, -, h3, h6, -, -, -, -, -, g3, g6, -⟩ := same_rows t
  show ws V c ((win0_3.rect t).emb y) = ws V c ((win0_6.rect t).emb y)
  refine congrArg (ws V c) (funext fun a => Fin.ext ?_)
  rw [Window.rect_emb_val win0_3 t y a rfl, Window.rect_emb_val win0_6 t y a rfl]
  match a with
  | ⟨0, _⟩ =>
    show win0_3.index t 0 * 1024 + _ = win0_6.index t 0 * 1024 + _
    rw [h3, h6]
  | ⟨1, _⟩ =>
    show win0_3.index t 1 * 4096 + _ = win0_6.index t 1 * 4096 + _
    rw [g3, g6]

end Cert.Proof.Prologue

end
-- ==== Proof.FusedArrays.lean ====
/-
  What the second launch leaves in its two result arrays, with exact arithmetic: the whole sum, and the product of all the
  quantised rows with the weight.
-/
module

public import proofs.«01_k».proof.Proof.FusedRegion
public import proofs.«01_k».proof.Proof.BlockMaths
public import Idealize.ShloMosaic.Lib.Pipeline.ValueKit.Partial

@[expose] public section

noncomputable section

namespace Cert.Proof.Fused

open Cert.KernelIdeal Cert.KernelIdeal.Gen
open Idealize.ShloMosaic Idealize.ShloMosaic.TcCoe
open Idealize.ShloMosaic.Pipeline (Dat Cfg Window)
open Cert.Proof.Maths
open scoped BigOperators

variable (V : Dev nD → Valuation τ sig (Elt Ideal)) (c : Dev nD)

/-- The arrays as the launch finds them: the two inputs, the columns' weights, the first quantised rows, the weight, the scale. -/
abbrev xs : S8192x4096.Idx → EReal := V c (Proc.devRef .tc main_arg0)
abbrev rs : S8192x4096.Idx → EReal := V c (Proc.devRef .tc main_arg1)
abbrev nws : S1x4096.Idx → EReal := V c (Proc.devRef .tc main_v2)
abbrev q0s : S1024x4096.Idx → EReal := V c (Proc.devRef .tc main_v5_1)
abbrev ws : S12288x4096.Idx → EReal := V c (Proc.devRef .tc main_v5_2)
abbrev scale : S1.Idx → EReal := V c (Proc.devRef .tc main_v4)

/-- Where each block lies at point `t`, in blocks: the chunks eight ahead (the last one again at the end), the weight's block by
    the column of the grid, the product's by row and column. -/
theorem places : ∀ t : Fin grid1.N,
    (win1_1.index t 0 = min (t.val + 8) 63 ∧ win1_2.index t 0 = min (t.val + 8) 63 ∧ win1_7.index t 0 = min (t.val + 8) 63)
    ∧ (win1_1.index t 1 = 0 ∧ win1_2.index t 1 = 0 ∧ win1_7.index t 1 = 0)
    ∧ (win1_0.index t 0 = 0 ∧ win1_0.index t 1 = 0 ∧ win1_3.index t 0 = 0 ∧ win1_3.index t 1 = 0)
    ∧ (win1_4.index t 0 = t.val % 8 ∧ win1_4.index t 1 = 0 ∧ win1_6.index t 0 = t.val / 8 ∧ win1_6.index t 1 = t.val % 8) := by
  decide +kernel

/-- The first input's chunk at point `t`. -/
theorem read_x (t : Fin cfg1.N) (p : Fin 128) (k : Fin 4096) (n : Fin 8192) (hn : n.val = min (t.val + 8) 63 * 128 + p.val) :
    iblk V c 1 t (ix2 p k) = xs V c (ix2 n k) := by
  obtain ⟨⟨h0, -⟩, ⟨g0, -⟩, -⟩ := places t
  show xs V c ((win1_1.rect t).emb (ix2 p k)) = _
  refine congrArg (xs V c) (funext fun a => Fin.ext ?_)
  rw [Window.rect_emb_val win1_1 t (ix2 p k) a rfl]
  match a with
  | ⟨0, _⟩ =>
    show win1_1.index t 0 * 128 + p.val = n.val
    omega
  | ⟨1, _⟩ =>
    show win1_1.index t 1 * 4096 + k.val = k.val
    omega

/-- The second input's chunk at point `t`. -/
theorem read_r (t : Fin cfg1.N) (p : Fin 128) (k : Fin 4096) (n : Fin 8192) (hn : n.val = min (t.val + 8) 63 * 128 + p.val) :
    iblk V c 2 t (ix2 p k) = rs V c (ix2 n k) := by
  obtain ⟨⟨-, h0, -⟩, ⟨-, g0, -⟩, -⟩ := places t
  show rs V c ((win1_2.rect t).emb (ix2 p k)) = _
  refine congrArg (rs V c) (funext fun a => Fin.ext ?_)
  rw [Window.rect_emb_val win1_2 t (ix2 p k) a rfl]
  match a with
  | ⟨0, _⟩ =>
    show win1_2.index t 0 * 128 + p.val = n.val
    omega
  | ⟨1, _⟩ =>
    show win1_2.index t 1 * 4096 + k.val = k.val
    omega

/-- The weights of the columns, at every point. -/
theorem read_nw (t : Fin cfg1.N) (k : Fin 4096) : iblk V c 3 t (ix2 0 k) = nws V c (ix2 0 k) := by
  obtain ⟨-, -, ⟨-, -, h0, g0⟩, -⟩ := places t
  show nws V c ((win1_3.rect t).emb (ix2 0 k)) = _
  refine congrArg (nws V c) (funext fun a => Fin.ext ?_)
  rw [Window.rect_emb_val win1_3 t (ix2 0 k) a rfl]
  match a with
  | ⟨0, _⟩ =>
    show win1_3.index t 0 * 1 + 0 = 0
    omega
  | ⟨1, _⟩ =>
    show win1_3.index t 1 * 4096 + k.val = k.val
    omega

/-- The first quantised rows, at every point. -/
theorem read_q0 (t : Fin cfg1.N) (p : Fin 1024) (k : Fin 4096) : iblk V c 0 t (ix2 p k) = q0s V c (ix2 p k) := by
  obtain ⟨-, -, ⟨h0, g0, -⟩, -⟩ := places t
  show q0s V c ((win1_0.rect t).emb (ix2 p k)) = _
  refine congrArg (q0s V c) (funext fun a => Fin.ext ?_)
  rw [Window.rect_emb_val win1_0 t (ix2 p k) a rfl]
  match a with
  | ⟨0, _⟩ =>
    show win1_0.index t 0 * 1024 + p.val = p.val
    omega
  | ⟨1, _⟩ =>
    show win1_0.index t 1 * 4096 + k.val = k.val
    omega

/-- The weight's block at point `t`. -/
theorem read_w (t : Fin cfg1.N) (o : Fin 1536) (k : Fin 4096) (n : Fin 12288) (hn : n.val = t.val % 8 * 1536 + o.val) :
    iblk V c 4 t (ix2 o k) = ws V c (ix2 n k) := by
  obtain ⟨-, -, -, ⟨h0, g0, -⟩⟩ := places t
  show ws V c ((win1_4.rect t).emb (ix2 o k)) = _
  refine congrArg (ws V c) (funext fun a => Fin.ext ?_)
  rw [Window.rect_emb_val win1_4 t (ix2 o k) a rfl]
  match a with
  | ⟨0, _⟩ =>
    show win1_4.index t 0 * 1536 + o.val = n.val
    omega
  | ⟨1, _⟩ =>
    show win1_4.index t 1 * 4096 + k.val = k.val
    omega

/-- The scale, at every point. -/
theorem read_scale (t : Fin cfg1.N) : iblk V c 5 t theOne = scale V c theOne := by
  show scale V c ((win1_5.rect t).emb theOne) = _
  exact congrArg (scale V c) (the_one _)

/-- The sum after the launch: the rows from 1024 on are written, the others kept, so all hold the sum. -/
theorem sum_array (hkept : ∀ i : S8192x4096.Idx, (i 0).val < 1024 → (V c (Proc.devRef .tc main_v6_1) : S8192x4096.Idx → EReal) i = sums (xs V c) (rs V c) i) :
    (dat V c).arrAt 7 cfg1.N = sums (xs V c) (rs V c) := by
  refine (dat V c).arrAt_eq_of_coversWhere_of_agree 7 _ (fun β => 8 ≤ β 0) (by decide +kernel) (fun t hf y => ?_) (fun j hj => ?_)
  · rw [after_7]
    obtain ⟨p, k, rfl⟩ : ∃ (p : Fin 128) (k : Fin 4096), y = (ix2 p k : S128x4096.Idx) := ⟨y 0, y 1, eq_ix2 _⟩
    obtain ⟨⟨-, -, h0⟩, ⟨-, -, g0⟩, -⟩ := places t
    have hp := p.isLt
    have e : (win1_7.rect t).emb (ix2 p k) = ix2 ⟨min (t.val + 8) 63 * 128 + p.val, by omega⟩ k := by
      funext a
      apply Fin.ext
      rw [Window.rect_emb_val win1_7 t (ix2 p k) a rfl]
      match a with
      | ⟨0, _⟩ =>
        show win1_7.index t 0 * 128 + p.val = _
        rw [h0]
        rfl
      | ⟨1, _⟩ =>
        show win1_7.index t 1 * 4096 + k.val = k.val
        omega
    show k0_pay2 (iblk V c 1 t) (iblk V c 2 t) (ix2 p k) = sums (xs V c) (rs V c) ((win1_7.rect t).emb (ix2 p k))
    rw [e, sum_block, read_x V c t p k ⟨min (t.val + 8) 63 * 128 + p.val, by omega⟩ rfl,
      read_r V c t p k ⟨min (t.val + 8) 63 * 128 + p.val, by omega⟩ rfl]
    rfl
  · rw [A_eq]
    refine hkept j ?_
    have h : ¬ 8 ≤ (j 0).val / 128 := hj
    omega

/-- The chunk computed at point `t` holds the quantised rows of its place. -/
theorem chunk_rows (t : Fin cfg1.N) (p : Fin 128) (k : Fin 4096) (n : Fin 8192) (hn : n.val = min (t.val + 8) 63 * 128 + p.val) :
    chunk V c t (ix2 p k) = quants (xs V c) (rs V c) (nws V c) (ix2 n k) := by
  unfold chunk
  rw [quant_block', quant_block]
  simp only [read_nw, fun k => read_x V c t p k n hn, fun k => read_r V c t p k n hn]
  rfl

theorem rowBlock_zero : rowBlock V c 0 = k1_pay1 (iblk V c 0 (pt 0)) := rfl

theorem rowBlock_succ (i : ℕ) (y : S1024x4096.Idx) :
    rowBlock V c (i + 1) y = chunk V c (pt (8 * i + (y (0 : Fin 2)).val / 128)) (inChunk y) := rfl

/-- The place within its chunk, by coordinates. -/
theorem inChunk_ix (p : Fin 1024) (k : Fin 4096) : inChunk (ix2 p k) = ix2 ⟨p.val % 128, Nat.mod_lt _ (by decide)⟩ k := by
  funext a
  match a with
  | ⟨0, _⟩ => rfl
  | ⟨1, _⟩ => rfl

/-- A row block holds the quantised rows of its place. -/
theorem row_block (hq : ∀ (p : Fin 1024) (k : Fin 4096) (n : Fin 8192), n.val = p.val →
      q0s V c (ix2 p k) = quants (xs V c) (rs V c) (nws V c) (ix2 n k))
    (i : ℕ) (hi : i < 8) (p : Fin 1024) (k : Fin 4096) (n : Fin 8192) (hn : n.val = i * 1024 + p.val) :
    rowBlock V c i (ix2 p k) = quants (xs V c) (rs V c) (nws V c) (ix2 n k) := by
  have hp := p.isLt
  obtain _ | i := i
  · rw [rowBlock_zero, carried_block, read_q0]
    exact hq p k n (by omega)
  · have hv : (pt (8 * i + p.val / 128)).val = 8 * i + p.val / 128 := Nat.mod_eq_of_lt (by omega)
    rw [rowBlock_succ, inChunk_ix]
    refine chunk_rows V c _ _ k n ?_
    rw [ix2_0, hv]
    show n.val = min (8 * i + p.val / 128 + 8) 63 * 128 + p.val % 128
    omega

/-- The product after the launch. -/
theorem product_array (hq : ∀ (p : Fin 1024) (k : Fin 4096) (n : Fin 8192), n.val = p.val →
      q0s V c (ix2 p k) = quants (xs V c) (rs V c) (nws V c) (ix2 n k)) :
    (dat V c).arrAt 6 cfg1.N = products (quants (xs V c) (rs V c) (nws V c)) (ws V c) (scale V c theOne) := by
  refine (dat V c).arrAt_eq_of_covers 6 _ (by decide +kernel) (fun t hf y => ?_)
  rw [after_6]
  obtain ⟨p, o, rfl⟩ : ∃ (p : Fin 1024) (o : Fin 1536), y = (ix2 p o : S1024x1536.Idx) := ⟨y 0, y 1, eq_ix2 _⟩
  obtain ⟨-, -, -, ⟨-, -, h0, g0⟩⟩ := places t
  have hp := p.isLt
  have ho := o.isLt
  have ht : t.val < 64 := t.isLt.trans_eq N_eq
  have e : (win1_6.rect t).emb (ix2 p o) = ix2 ⟨t.val / 8 * 1024 + p.val, by omega⟩ ⟨t.val % 8 * 1536 + o.val, by omega⟩ := by
    funext a
    apply Fin.ext
    rw [Window.rect_emb_val win1_6 t (ix2 p o) a rfl]
    match a with
    | ⟨0, _⟩ =>
      show win1_6.index t 0 * 1024 + p.val = _
      rw [h0]
      rfl
    | ⟨1, _⟩ =>
      show win1_6.index t 1 * 1536 + o.val = _
      rw [g0]
      rfl
  show k1_pay4 (rowBlock V c (t.val / 8)) (iblk V c 4 t) (iblk V c 5 t theOne) (ix2 p o)
    = products (quants (xs V c) (rs V c) (nws V c)) (ws V c) (scale V c theOne) ((win1_6.rect t).emb (ix2 p o))
  rw [e, product_block, read_scale]
  refine congrArg (· * _) (Finset.sum_congr rfl fun k _ => ?_)
  rw [row_block V c hq (t.val / 8) (by omega) p k ⟨t.val / 8 * 1024 + p.val, by omega⟩ rfl,
    read_w V c t o k ⟨t.val % 8 * 1536 + o.val, by omega⟩ rfl]
  rfl

end Cert.Proof.Fused

end
-- ==== Proof.KernelValue.lean ====
/-
  What the kernel's two results hold, as functions of its arguments: the sum of the input and the residual, and the product
  of the quantised sum with the weight.
-/
module

public import proofs.«01_k».proof.Proof.Frames
public import proofs.«01_k».proof.Proof.PrologueArrays
public import proofs.«01_k».proof.Proof.FusedArrays

@[expose] public section

noncomputable section

namespace Cert.Proof.Run

open Cert.KernelIdeal Cert.KernelIdeal.Gen Cert.Proof.Maths
open Idealize.ShloMosaic Idealize.ShloMosaic.TcCoe Idealize.ShloMosaic.StableHlo

variable (m : (ℓ : Loc nD τ sig) → Buf (Elt Ideal) ℓ) (c : Dev nD)

/-- The kernel's arguments as arrays of extended reals: the input, the residual, the norm weight, the weight, and the two
    scales. -/
abbrev inX : S8192x4096.Idx → EReal := m ((c.tc : Thread nD τ).loc main_arg0)
abbrev inR : S8192x4096.Idx → EReal := m ((c.tc : Thread nD τ).loc main_arg1)
abbrev inNorm : S4096.Idx → EReal := m ((c.tc : Thread nD τ).loc main_arg2)
abbrev inW : S12288x4096.Idx → EReal := m ((c.tc : Thread nD τ).loc main_arg3)
abbrev inScale : S_.Idx → EReal := m ((c.tc : Thread nD τ).loc main_arg4)
abbrev wScale : S_.Idx → EReal := m ((c.tc : Thread nD τ).loc main_arg5)

/-- The norm weight over the input scale, as one row. -/
def scaledNorm : S1x4096.Idx → EReal := fun i => Ideal.div (inNorm m c (ix1 (i 1))) (inScale m c ix0)

/-- The host's first operations leave the norm weight over the input scale in the row both launches read. -/
theorem norm_row : V1 m c (Proc.devRef .tc main_v2) = scaledNorm m c := by
  show after hostOps0 (V0 m c) (Proc.devRef .tc main_v2) = _
  after_results
  funext i
  show shapeCast S1x4096 _ shapeCasts_S4096_S1x4096 i = _
  rw [shapeCast_apply (k := (ix1 (i 1) : S4096.Idx)) (hk := by
    rw [Shape.rowMajor_val_one, Shape.rowMajor_val_two]
    have h : (i 0).val < 1 := (i 0).isLt
    show (i 1).val = (i 0).val * 4096 + (i 1).val; omega)]
  rw [ValueIdx.hostDivf_apply, ValueIdx.broadcastInDim_scalar_apply]
  rfl

/-- And the product of the two scales in the single number the second launch reads. -/
theorem scale_one (i : S1.Idx) : V1 m c (Proc.devRef .tc main_v4) i = inScale m c ix0 * wScale m c ix0 := by
  have h : V1 m c (Proc.devRef .tc main_v4) = fun _ => inScale m c ix0 * wScale m c ix0 := by
    show after hostOps0 (V0 m c) (Proc.devRef .tc main_v4) = _
    after_results
    funext i
    show shapeCast S1 _ shapeCasts_S_S1 i = _
    rw [shapeCast_apply (k := (ix0 : S_.Idx)) (hk := by
      have h0 : ∀ n : Fin 1, n.val = 0 := fun n => by omega
      exact (h0 _).trans (h0 _).symm)]
    rfl
  rw [h]

/-- A buffer the second launch reads that neither the first launch nor the copy between them writes. -/
theorem mid_of (r : Ref sig .tc) (h : r ∉ hostOps1_W) (h0 : r ≠ main_v5_0) (h1 : r ≠ main_v5_1) (h2 : r ≠ main_v5_2) :
    mid m c (Proc.devRef .tc r) = V1 m c (Proc.devRef .tc r) := by
  have e : mid m c (Proc.devRef .tc r) = left0 m c (Proc.devRef .tc r) := by
    refine (V3_of m (outsA m) c r h).trans ?_
    exact congrFun (V2_eq m c) _
  exact e.trans (left0_of m c r h0 h1 h2)

/-- The quantised rows and the weight reach the second launch as the first left them. -/
theorem mid_v5_1 : mid m c (Proc.devRef .tc main_v5_1) = (Prologue.dat (V1 m) c).arrAt 5 cfg0.N :=
  (V3_of m (outsA m) c main_v5_1 (by decide)).trans ((congrFun (V2_eq m c) _).trans (left0_v5_1 m c))
theorem mid_v5_2 : mid m c (Proc.devRef .tc main_v5_2) = (Prologue.dat (V1 m) c).arrAt 6 cfg0.N :=
  (V3_of m (outsA m) c main_v5_2 (by decide)).trans ((congrFun (V2_eq m c) _).trans (left0_v5_2 m c))

/-- The second launch's array of sums starts as the first launch left its own. -/
theorem mid_v6_1 : mid m c (Proc.devRef .tc main_v6_1) = (Prologue.dat (V1 m) c).arrAt 4 cfg0.N := by
  have e : mid m c (Proc.devRef .tc main_v6_1) = V2 m (outsA m) c (Proc.devRef .tc main_v5_0) := by
    show after hostOps1 (V2 m (outsA m) c) (Proc.devRef .tc main_v6_1) = _
    after_results
    rfl
  exact e.trans ((congrFun (V2_eq m c) _).trans (left0_v5_0 m c))

/-- What the first launch reads is the arguments and the scaled norm row. -/
theorem first_xs : Prologue.xs (V1 m) c = inX m c := V1_of m c main_arg0 (by decide)
theorem first_rs : Prologue.rs (V1 m) c = inR m c := V1_of m c main_arg1 (by decide)
theorem first_nws : Prologue.nws (V1 m) c = scaledNorm m c := norm_row m c
theorem first_ws : Prologue.ws (V1 m) c = inW m c := V1_of m c main_arg3 (by decide)

/-- And so does the second. -/
theorem second_xs : Fused.xs (mid m) c = inX m c :=
  (mid_of m c main_arg0 (by decide) (by decide) (by decide) (by decide)).trans (first_xs m c)
theorem second_rs : Fused.rs (mid m) c = inR m c :=
  (mid_of m c main_arg1 (by decide) (by decide) (by decide) (by decide)).trans (first_rs m c)
theorem second_nws : Fused.nws (mid m) c = scaledNorm m c :=
  (mid_of m c main_v2 (by decide) (by decide) (by decide) (by decide)).trans (first_nws m c)
theorem second_ws : Fused.ws (mid m) c = inW m c :=
  (mid_v5_2 m c).trans ((Prologue.weight_array (V1 m) c).trans (first_ws m c))
theorem second_scale (i : S1.Idx) : Fused.scale (mid m) c i = inScale m c ix0 * wScale m c ix0 :=
  (congrFun (mid_of m c main_v4 (by decide) (by decide) (by decide) (by decide)) i).trans (scale_one m c i)

/-- The kernel's second result is the sum of the input and the residual. -/
theorem sum_value : (Fused.dat (mid m) c).arrAt 7 cfg1.N = sums (inX m c) (inR m c) := by
  have h := Fused.sum_array (mid m) c (fun i hi => by
    rw [second_xs, second_rs, ← first_xs, ← first_rs]
    exact (congrFun (mid_v6_1 m c) i).trans (Prologue.sum_array (V1 m) c i hi))
  rwa [second_xs, second_rs] at h

/-- Its first is the product of the quantised sum with the weight, times the two scales. -/
theorem product_value : (Fused.dat (mid m) c).arrAt 6 cfg1.N
    = products (quants (inX m c) (inR m c) (scaledNorm m c)) (inW m c) (inScale m c ix0 * wScale m c ix0) := by
  have h := Fused.product_array (mid m) c (fun p k n hn => by
    rw [second_xs, second_rs, second_nws, ← first_xs, ← first_rs, ← first_nws]
    exact (congrFun (mid_v5_1 m c) (ix2 p k)).trans (Prologue.quant_array (V1 m) c p k n hn))
  rwa [second_xs, second_rs, second_nws, second_ws, second_scale] at h

end Cert.Proof.Run

end
-- ==== Proof.ReferenceValue.lean ====
/-
  What the reference's two results hold, as functions of its arguments: the sum of the input and the residual, and the
  product of the quantised sum with the weight.
-/
module

public import proofs.«01_k».proof.Proof.BlockMaths
public import proofs.«01_k».proof.Proof.Gen.ReferenceIdeal.Frame
public import Idealize.ShloMosaic.Lib.KernelVsHost
public import Idealize.ShloMosaic.Lib.Pipeline.ValueKit.Partial

@[expose] public section

noncomputable section

namespace Cert.Proof.Reference

open Cert.ReferenceIdeal Cert.ReferenceIdeal.Gen
open Cert.Proof.Maths (sums clip invRms products)
open Idealize.ShloMosaic Idealize.ShloMosaic.TcCoe Idealize.ShloMosaic.StableHlo
open Idealize.ShloMosaic.Pipeline (Dat Window)
open Idealize.SL.Sem
open scoped BigOperators

/-- An element of the quantised sum, the norm applied before the input scale divides. -/
def quotients (x r : S8192x4096.Idx → EReal) (nw : S4096.Idx → EReal) (s : EReal) : S8192x4096.Idx → EReal := fun i =>
  clip (Ideal.div ((x (ix2 (i 0) (i 1)) + r (ix2 (i 0) (i 1)))
    * invRms (fun k => x (ix2 (i 0) k) + r (ix2 (i 0) k)) * nw (ix1 (i 1))) s)

/-! ## The host operations -/

/-- The mean square of each row, with the small constant added and its reciprocal root taken, spread over the row. -/
theorem rms_array (v : FVec Ideal S8192x4096 .f32) (p : Fin 8192) (d : Fin 4096) :
    broadcastInDim S8192x4096 ![0, 1] bcast_S8192x1_S8192x4096_0_1 (Host.rsqrt (addf (Host.divf
      (broadcastInDim S8192x1 ![0] bcast_S8192_S8192x1_0
        (Host.reduceAdd (mulf v v) (constant S_ .f32 0x00000000#32) reducesTo_S8192x4096_S8192_d1 h_S_))
      (broadcastInDim S8192x1 ![] bcast_S_S8192x1 (constant S_ .f32 0x45800000#32)))
      (broadcastInDim S8192x1 ![] bcast_S_S8192x1 (constant S_ .f32 0x3727C5AC#32)))) (ix2 p d)
    = invRms (fun k => v (ix2 p k)) := by
  rw [broadcastInDim_apply (k := (ix2 p 0 : S8192x1.Idx)) (hk := fun a => by
    match a with
    | ⟨0, _⟩ => rfl
    | ⟨1, _⟩ => rfl)]
  show Ideal.rsqrt (Host.divf (F := Ideal) _ _ (ix2 p 0)
    + broadcastInDim S8192x1 ![] bcast_S_S8192x1 (constant (F := Ideal) S_ .f32 0x3727C5AC#32) (ix2 p 0)) = _
  rw [ValueIdx.hostDivf_apply, ValueIdx.broadcastInDim_scalar_apply, ValueIdx.broadcastInDim_scalar_apply,
    ValueIdx.constant_apply, ValueIdx.constant_apply]
  rw [broadcastInDim_apply (k := (ix1 p : S8192.Idx)) (hk := fun a => by
    match a with
    | ⟨0, _⟩ => rfl)]
  rw [ValueIdx.hostReduceAdd_apply, Ideal.hostReduceAdd_r2_a1, ValueIdx.constant_apply,
    show Ideal.ofBits .f32 0x00000000#32 = (0 : EReal) by simp [Ideal.ofBits, Ideal.ieee], zero_add]
  rfl

/-- The weight of the norm, spread over the rows. -/
theorem norm_array (nw : FVec Ideal S4096 .f32) (p : Fin 8192) (d : Fin 4096) :
    broadcastInDim S8192x4096 ![0, 1] bcast_S1x4096_S8192x4096_0_1 (broadcastInDim S1x4096 ![1] bcast_S4096_S1x4096_1 nw) (ix2 p d)
    = nw (ix1 d) := by
  rw [broadcastInDim_apply (k := (ix2 0 d : S1x4096.Idx)) (hk := fun a => by
    match a with
    | ⟨0, _⟩ => rfl
    | ⟨1, _⟩ => rfl)]
  rw [broadcastInDim_apply (k := (ix1 d : S4096.Idx)) (hk := fun a => by
    match a with
    | ⟨0, _⟩ => rfl)]

/-- The product with the weight, element by element. -/
theorem dot_array (q : FVec Ideal S8192x4096 .f32) (w : FVec Ideal S12288x4096 .f32) (p : Fin 8192) (o : Fin 12288) :
    Host.dotGeneral dot_S8192x4096_S12288x4096_S8192x12288_1_1_0_0_n_n none q w (ix2 p o)
    = ∑ k : Fin 4096, (q (ix2 p k) : EReal) * (w (ix2 o k) : EReal) := by
  rw [← matmul_zero_eq_dotGeneral]
  show FloatOps.matmul (DotDims.transposedRhs 8192 4096 12288) none q w (constant S8192x12288 .f32 0x00000000#32) (ix2 p o) = _
  rw [show (ix2 p o : S8192x12288.Idx) = ValueIdx.ix2 p o from rfl,
    Ideal.matmul_transposedRhs_apply, ValueIdx.constant_apply,
    show Ideal.ofBits .f32 0x00000000#32 = (0 : EReal) by simp [Ideal.ofBits, Ideal.ieee], zero_add]
  rfl

variable (m : (ℓ : Loc nD τ sig) → Buf (Elt Ideal) ℓ) (c : Dev nD)

/-- The reference's arguments as arrays of extended reals. -/
abbrev inX : S8192x4096.Idx → EReal := m ((c.tc : Thread nD τ).loc main_arg0)
abbrev inR : S8192x4096.Idx → EReal := m ((c.tc : Thread nD τ).loc main_arg1)
abbrev inNorm : S4096.Idx → EReal := m ((c.tc : Thread nD τ).loc main_arg2)
abbrev inW : S12288x4096.Idx → EReal := m ((c.tc : Thread nD τ).loc main_arg3)
abbrev inScale : S_.Idx → EReal := m ((c.tc : Thread nD τ).loc main_arg4)
abbrev wScale : S_.Idx → EReal := m ((c.tc : Thread nD τ).loc main_arg5)

/-- The host operations before the rounding in two stretches. -/
theorem before_eq : V0 m c = after hostOps0_1 (after hostOps0 (fun b => m (c, b))) := rfl

/-- The clipping, from the two limits and the quotients. -/
theorem clip_array (W : Valuation τ sig (Elt Ideal)) :
    after hostOps0_1 W (Proc.devRef .tc main_v16) = (minimumf (broadcastInDim S8192x4096 ![] bcast_S_S8192x4096 (W (Proc.devRef .tc main_cst_3)))
      (maximumf (broadcastInDim S8192x4096 ![] bcast_S_S8192x4096 (W (Proc.devRef .tc main_cst_2))) (W (Proc.devRef .tc main_v15)))
      : FVec Ideal S8192x4096 .f32) := by
  after_results
  rfl

/-- The two limits. -/
theorem limits (W : Valuation τ sig (Elt Ideal)) :
    after hostOps0 W (Proc.devRef .tc main_cst_2) = (constant S_ .f32 0xC3E00000#32 : FVec Ideal S_ .f32)
    ∧ after hostOps0 W (Proc.devRef .tc main_cst_3) = (constant S_ .f32 0x43E00000#32 : FVec Ideal S_ .f32) := by
  constructor
  · after_results
  · after_results

/-- The quotients, from the arguments. -/
theorem quotient_array (W : Valuation τ sig (Elt Ideal)) (v : FVec Ideal S8192x4096 .f32)
    (hv : v = addf (W (Proc.devRef .tc main_arg0) : FVec Ideal S8192x4096 .f32) (W (Proc.devRef .tc main_arg1) : FVec Ideal S8192x4096 .f32)) :
    after hostOps0 W (Proc.devRef .tc main_v15) = (Host.divf (mulf (mulf v
      (broadcastInDim S8192x4096 ![0, 1] bcast_S8192x1_S8192x4096_0_1 (Host.rsqrt (addf (Host.divf
        (broadcastInDim S8192x1 ![0] bcast_S8192_S8192x1_0
          (Host.reduceAdd (mulf v v) (constant S_ .f32 0x00000000#32) reducesTo_S8192x4096_S8192_d1 h_S_))
        (broadcastInDim S8192x1 ![] bcast_S_S8192x1 (constant S_ .f32 0x45800000#32)))
        (broadcastInDim S8192x1 ![] bcast_S_S8192x1 (constant S_ .f32 0x3727C5AC#32))))))
      (broadcastInDim S8192x4096 ![0, 1] bcast_S1x4096_S8192x4096_0_1 (broadcastInDim S1x4096 ![1] bcast_S4096_S1x4096_1
        (W (Proc.devRef .tc main_arg2)))))
      (broadcastInDim S8192x4096 ![] bcast_S_S8192x4096 (W (Proc.devRef .tc main_arg4))) : FVec Ideal S8192x4096 .f32) := by
  subst hv
  after_results

/-- The sum of the input and the residual, before the rounding. -/
theorem sum_before : V0 m c (Proc.devRef .tc main_v0) = sums (inX m c) (inR m c) := by
  rw [before_eq]
  after_results
  rfl

/-- The clipped quotients, before the rounding. -/
theorem quotient_before : V0 m c (Proc.devRef .tc main_v16) = quotients (inX m c) (inR m c) (inNorm m c) (inScale m c ix0) := by
  rw [before_eq, clip_array, (limits _).1, (limits _).2,
    quotient_array _ (sums (inX m c) (inR m c)) rfl]
  funext i
  obtain ⟨p, d, rfl⟩ : ∃ (p : Fin 8192) (d : Fin 4096), i = ix2 p d := ⟨i 0, i 1, (ix2_eta i).symm⟩
  show min (broadcastInDim S8192x4096 ![] bcast_S_S8192x4096 (constant (F := Ideal) S_ .f32 0x43E00000#32) (ix2 p d))
    (max (broadcastInDim S8192x4096 ![] bcast_S_S8192x4096 (constant (F := Ideal) S_ .f32 0xC3E00000#32) (ix2 p d))
      (Host.divf (F := Ideal) (φ := .f32) (mulf (F := Ideal) (φ := .f32) (mulf (F := Ideal) (φ := .f32) _ _) _) _ (ix2 p d))) = _
  rw [ValueIdx.hostDivf_apply, ValueIdx.mulf_apply, ValueIdx.mulf_apply, norm_array, rms_array,
    ValueIdx.broadcastInDim_scalar_apply, ValueIdx.broadcastInDim_scalar_apply, ValueIdx.broadcastInDim_scalar_apply]
  rfl

/-! ## The rounding -/

/-- With exact arithmetic the rounding keeps its block. -/
theorem round_block (v : Vec Ideal S8192x4096 .f32) : out0_1 v = v := by
  have hz : (![0, 0] : Fin 2 → ℕ) = fun _ => 0 := by funext a; match a with | ⟨0, _⟩ => rfl | ⟨1, _⟩ => rfl
  unfold out0_1
  rw [View.canon_unit_zero hz, View.ld_unit_zero hz]
  show shapeCast S8192x4096 v shapeCasts_S8192x4096_S8192x4096 = v
  rw [shapeCast_self]

/-- So the rounded array is the clipped quotients. -/
theorem rounded : (dats m 0 c).arrAt 1 cfg0.N = quotients (inX m c) (inR m c) (inNorm m c) (inScale m c ix0) := by
  refine (dats m 0 c).arrAt_eq_of_covers 1 _ (by decide +kernel) (fun t hf y => ?_)
  rw [after0_1, round_block]
  show V m c main_v16 ((win0_0.rect t).emb y)
    = quotients (inX m c) (inR m c) (inNorm m c) (inScale m c ix0) ((win0_1.rect t).emb y)
  rw [show V m c main_v16 = V0 m c (Proc.devRef .tc main_v16) from rfl, quotient_before]
  refine congrArg _ (funext fun a => Fin.ext ?_)
  rw [Window.rect_emb_val win0_0 t y a rfl, Window.rect_emb_val win0_1 t y a rfl]
  rfl

/-! ## The results -/

/-- The first result: the product of the quantised sum with the weight, times the two scales. -/
theorem product_after : Pipeline.afterTail₀ cfgs (dats m) 0 (V0 m) [hostOps1] c main_v21
    = products (quotients (inX m c) (inR m c) (inNorm m c) (inScale m c ix0)) (inW m c) (inScale m c ix0 * wScale m c ix0) := by
  have e17 : Pipeline.withArrays spec0 c (V0 m c) (fun w => (dats m 0 c).arrAt w cfg0.N) (Proc.devRef .tc main_v17)
      = quotients (inX m c) (inR m c) (inNorm m c) (inScale m c ix0) :=
    (Pipeline.withArrays_arr spec0 (by decide) c (V0 m c) (fun w => (dats m 0 c).arrAt w cfg0.N) 1).trans (rounded m c)
  have e3 : Pipeline.withArrays spec0 c (V0 m c) (fun w => (dats m 0 c).arrAt w cfg0.N) (Proc.devRef .tc main_arg3) = inW m c :=
    (Pipeline.withArrays_of_ne spec0 c (V0 m c) _ main_arg3 (by decide)).trans (V_main_arg3 m c)
  have e4 : Pipeline.withArrays spec0 c (V0 m c) (fun w => (dats m 0 c).arrAt w cfg0.N) (Proc.devRef .tc main_arg4) = inScale m c :=
    (Pipeline.withArrays_of_ne spec0 c (V0 m c) _ main_arg4 (by decide)).trans (V_main_arg4 m c)
  have e5 : Pipeline.withArrays spec0 c (V0 m c) (fun w => (dats m 0 c).arrAt w cfg0.N) (Proc.devRef .tc main_arg5) = wScale m c :=
    (Pipeline.withArrays_of_ne spec0 c (V0 m c) _ main_arg5 (by decide)).trans (V_main_arg5 m c)
  show after hostOps1 (Pipeline.withArrays spec0 c (V0 m c) (fun w => (dats m 0 c).arrAt w cfg0.N)) (Proc.devRef .tc main_v21) = _
  generalize Pipeline.withArrays spec0 c (V0 m c) (fun w => (dats m 0 c).arrAt w cfg0.N) = W at e17 e3 e4 e5 ⊢
  after_results
  rw [e17, e3, e4, e5]
  funext i
  obtain ⟨p, o, rfl⟩ : ∃ (p : Fin 8192) (o : Fin 12288), i = ix2 p o := ⟨i 0, i 1, (ix2_eta i).symm⟩
  show Host.dotGeneral (F := Ideal) dot_S8192x4096_S12288x4096_S8192x12288_1_1_0_0_n_n none
      (quotients (inX m c) (inR m c) (inNorm m c) (inScale m c ix0)) (inW m c) (ix2 p o)
    * broadcastInDim S8192x12288 ![] bcast_S_S8192x12288 (mulf (F := Ideal) (φ := .f32) (inScale m c) (wScale m c)) (ix2 p o) = _
  rw [dot_array, ValueIdx.broadcastInDim_scalar_apply]
  rfl

/-- The second: the sum of the input and the residual. -/
theorem sum_after : Pipeline.afterTail₀ cfgs (dats m) 0 (V0 m) [hostOps1] c main_v0 = sums (inX m c) (inR m c) := by
  have e : Pipeline.withArrays spec0 c (V0 m c) (fun w => (dats m 0 c).arrAt w cfg0.N) (Proc.devRef .tc main_v0)
      = sums (inX m c) (inR m c) :=
    (Pipeline.withArrays_of_ne spec0 c (V0 m c) _ main_v0 (by decide)).trans (sum_before m c)
  show after hostOps1 (Pipeline.withArrays spec0 c (V0 m c) (fun w => (dats m 0 c).arrAt w cfg0.N)) (Proc.devRef .tc main_v0) = _
  generalize Pipeline.withArrays spec0 c (V0 m c) (fun w => (dats m 0 c).arrAt w cfg0.N) = W at e ⊢
  after_results
  exact e

/-- Every run of the reference ends with these results and the arguments as they were. -/
theorem run_values (ρ : Dev nD → PrngReg) :
    θ_run defs (onTc (τ := τ) (main (F := Ideal))) ⟨m, fun _ => 0, ρ⟩ (fun r => ∀ c : Dev nD,
      r.2.mem ((c.tc : Thread nD τ).loc main_v21)
        = products (quotients (inX m c) (inR m c) (inNorm m c) (inScale m c ix0)) (inW m c) (inScale m c ix0 * wScale m c ix0)
      ∧ r.2.mem ((c.tc : Thread nD τ).loc main_v0) = sums (inX m c) (inR m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  have rest := fun (b : Ref sig .tc) hb hw => Pipeline.mem_restRefs_of (win := spec0) b hb hw
  refine (θ_run defs _ _).mono (fun r h c => ⟨?_, ?_, ?_, ?_, ?_, ?_, ?_, ?_⟩) (run_main m ρ)
  · exact ((h c).2 main_v21 (rest _ (by decide) (by decide))).trans (product_after m c)
  · exact ((h c).2 main_v0 (rest _ (by decide) (by decide))).trans (sum_after m c)
  · exact ((h c).2 main_arg0 (rest _ (by decide) (by decide))).trans (W_main_arg0 m (dats m) c)
  · exact ((h c).2 main_arg1 (rest _ (by decide) (by decide))).trans (W_main_arg1 m (dats m) c)
  · exact ((h c).2 main_arg2 (rest _ (by decide) (by decide))).trans (W_main_arg2 m (dats m) c)
  · exact ((h c).2 main_arg3 (rest _ (by decide) (by decide))).trans (W_main_arg3 m (dats m) c)
  · exact ((h c).2 main_arg4 (rest _ (by decide) (by decide))).trans (W_main_arg4 m (dats m) c)
  · exact ((h c).2 main_arg5 (rest _ (by decide) (by decide))).trans (W_main_arg5 m (dats m) c)

end Cert.Proof.Reference

end
-- ==== Proof.Equation.lean ====
/-
  The equation the two programs meet in: the kernel divides the norm weight by the input scale and then multiplies, the
  reference multiplies and then divides. With a scale that is not zero the two are the same; with a scale of zero both
  products are zero, since both are multiplied by that scale at the end.
-/
module

public import proofs.«01_k».proof.Proof.KernelValue
public import proofs.«01_k».proof.Proof.ReferenceValue

@[expose] public section

noncomputable section

namespace Cert.Proof

open Idealize.ShloMosaic Idealize.SL.Sem
open Cert.Proof.Maths

/-- Dividing one factor by a number that is not zero divides the product. -/
theorem mul_div {a b s : EReal} (hs : s ≠ 0) : a * Ideal.div b s = Ideal.div (a * b) s := by
  unfold Ideal.div
  rw [if_neg hs, if_neg hs, mul_assoc]

/-- The kernel's quantised sum, from the norm weight over the input scale, is the reference's. -/
theorem quants_eq (x r : Cert.KernelIdeal.S8192x4096.Idx → EReal) (nw : Cert.KernelIdeal.S4096.Idx → EReal) {s : EReal} (hs : s ≠ 0) :
    quants x r (fun i => Ideal.div (nw (ix1 (i 1))) s) = Reference.quotients x r nw s := by
  funext i
  exact congrArg clip (mul_div hs)

/-- Whatever the input scale, the two product arrays agree: a scale of zero makes both zero. -/
theorem products_eq (x r : Cert.KernelIdeal.S8192x4096.Idx → EReal) (nw : Cert.KernelIdeal.S4096.Idx → EReal)
    (w : Cert.KernelIdeal.S12288x4096.Idx → EReal) (s ws : EReal) :
    products (quants x r (fun i => Ideal.div (nw (ix1 (i 1))) s)) w (s * ws)
      = products (Reference.quotients x r nw s) w (s * ws) := by
  by_cases hs : s = 0
  · funext i
    unfold products
    rw [hs, zero_mul, mul_zero, mul_zero]
  · rw [quants_eq x r nw hs]

/-- From the same arguments the kernel and the reference end with the same two results. -/
theorem same_results : Cert.algebraic_KernelIdeal_ReferenceIdeal
    (hKernelIdeal := Cert.KernelIdeal.Gen.facts) (hReferenceIdeal := Cert.ReferenceIdeal.Gen.facts) := by
  intro m g m' g' hpre hargs
  refine ⟨fun c => products (quants (Run.inX m c) (Run.inR m c) (Run.scaledNorm m c)) (Run.inW m c)
      (Run.inScale m c ix0 * Run.wScale m c ix0), fun c => sums (Run.inX m c) (Run.inR m c), ?_, ?_⟩
  · refine (θ_run _ _ _).mono (fun r h c => ?_) (Run.run_values (F := Ideal) m g)
    obtain ⟨h0, h1, rest⟩ := h.1 c
    exact ⟨h0.trans (Run.product_value m c), h1.trans (Run.sum_value m c), rest⟩
  · refine (θ_run _ _ _).mono (fun r h c => ?_) (Reference.run_values m' g')
    obtain ⟨h0, h1, rest⟩ := h c
    obtain ⟨a0, a1, a2, a3, a4, a5⟩ := hargs c
    have e0 : Reference.inX m' c = Run.inX m c := a0
    have e1 : Reference.inR m' c = Run.inR m c := a1
    have e2 : Reference.inNorm m' c = Run.inNorm m c := a2
    have e3 : Reference.inW m' c = Run.inW m c := a3
    have e4 : Reference.inScale m' c = Run.inScale m c := a4
    have e5 : Reference.wScale m' c = Run.wScale m c := a5
    rw [e0, e1, e2, e3, e4, e5, ← products_eq] at h0
    rw [e0, e1] at h1
    exact ⟨h0, h1, rest⟩

end Cert.Proof

end
-- ==== Proof.lean ====
/-
  The proof of everything the certificate claims. The frames of the kernel come from one run of its two launches, read at
  floating-point bits and at exact numbers; the reference's frame from its own run; and the equal results from what each
  program's results are shown to hold.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.FrameBits
public import proofs.«01_k».proof.Proof.Equation

@[expose] public section

noncomputable section

namespace Cert.Proof

open Idealize.ShloMosaic Idealize.SL.Sem

/-- The claims: every run of the kernel, of its idealization and of the reference ends with the arguments as they were and
    every semaphore at zero; the idealization is the kernel's own text; and the kernel and the reference end
    with the same product and the same sum. -/
theorem claim : Cert.Claim :=
  ⟨Cert.Kernel.Gen.facts, Cert.KernelIdeal.Gen.facts, Cert.ReferenceIdeal.Gen.facts,
    frame_bits,
    Run.frame_ideal,
    fun m g _ => Cert.ReferenceIdeal.Gen.frame m g,
    trivial,
    same_results⟩

end Cert.Proof

end
